-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v27) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S1024x16 : Shape := ⟨2, ![1024, 16]⟩
abbrev S16x64x16 : Shape := ⟨3, ![16, 64, 16]⟩
abbrev S16x16 : Shape := ⟨2, ![16, 16]⟩

class Facts : Prop where
  bcast_S_S1024x1 : S_.BroadcastsInDim S1024x1 (![] : Fin 0 → Fin S1024x1.rank)
  bcast_S_S16 : S_.BroadcastsInDim S16 (![] : Fin 0 → Fin S16.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  reducesTo_S1024x16_S16_d0 : S1024x16.ReducesTo [0] S16
  h_S_ : 0 < S_.numel
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S1024x1_S_d0_1 : S1024x1.ReducesTo [0, 1] S_
  reducesTo_S16_S_d0 : S16.ReducesTo [0] S_
  reducesTo_S16x16_S_d0_1 : S16x16.ReducesTo [0, 1] S_

variable [Facts]

def fn_part1 {F : FTy → Type} [FloatOps F] (main_v4 : IVec S1024x1 1) (main_v19 : FVec F S1024x16 .f32) : IVec S_ 1 :=
  let main_cst : FVec F S_ .f32 := constant S_ .f32 0x00000000#32
  let main_v20 : FVec F S16 .f32 := (fun x v => Host.reduceAdd x v reducesTo_S1024x16_S16_d0 h_S_) main_v19 main_cst
  let main_cst_3 : FVec F S_ .f32 := constant S_ .f32 0x43000000#32
  let main_v21 : FVec F S16 .f32 := broadcastInDim S16 ![] bcast_S_S16 main_cst_3
  let main_v22 : IVec S16 1 := cmpf .ole main_v20 main_v21
  let main_v23 : FVec F S16x64x16 .f32 := shapeCast S16x64x16 main_v19 shapeCasts_S1024x16_S16x64x16
  let main_cst_4 : FVec F S_ .f32 := constant S_ .f32 0x00000000#32
  let main_v24 : FVec F S16x16 .f32 := (fun x v => Host.reduceAdd x v reducesTo_S16x64x16_S16x16_d1 h_S_) main_v23 main_cst_4
  let main_cst_5 : FVec F S_ .f32 := constant S_ .f32 0x41800000#32
  let main_v25 : FVec F S16x16 .f32 := broadcastInDim S16x16 ![] bcast_S_S16x16 main_cst_5
  let main_v26 : IVec S16x16 1 := cmpf .ole main_v24 main_v25
  let main_c_6 : IVec S_ 1 := constantI S_ 1 1#1
  let main_v27 : IVec S_ 1 := (fun x v => Host.reduce IntOp.andi x v reducesTo_S1024x1_S_d0_1 h_S_) main_v4 main_c_6
  let main_c_7 : IVec S_ 1 := constantI S_ 1 1#1
  let main_v28 : IVec S_ 1 := (fun x v => Host.reduce IntOp.andi x v reducesTo_S16_S_d0 h_S_) main_v22 main_c_7
  let main_v29 : IVec S_ 1 := andi main_v27 main_v28
  let main_c_8 : IVec S_ 1 := constantI S_ 1 1#1
  let main_v30 : IVec S_ 1 := (fun x v => Host.reduce IntOp.andi x v reducesTo_S16x16_S_d0_1 h_S_) main_v26 main_c_8
  let main_v31 : IVec S_ 1 := andi main_v29 main_v30
  main_v31

def fn {F : FTy → Type} [FloatOps F] (main_arg0 : FVec F S1024x512 .bf16) (main_arg1 : FVec F S512x64 .bf16) (main_arg2 : IVec S1024x1 32) (main_arg3 : FVec F S4x512x1024 .bf16) (main_arg4 : FVec F S512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S16 32 := iotaInDim S16 32 0
  let main_c_1 : IVec S_ 32 := constantI S_ 32 4#32
  let main_v6 : IVec S16 32 := broadcastInDim S16 ![] bcast_S_S16 main_c_1
  let main_v7 : IVec S16 32 := muli main_v6 main_v5
  let main_v8 : IVec S1x16 32 := broadcastInDim S1x16 ![1] bcast_S16_S1x16_1 main_v7
  let main_v9 : IVec S1024x16 32 := broadcastInDim S1024x16 ![0, 1] bcast_S1024x1_S1024x16_0_1 main_arg2
  let main_v10 : IVec S1024x16 32 := broadcastInDim S1024x16 ![0, 1] bcast_S1x16_S1024x16_0_1 main_v8
  let main_v11 : IVec S1024x16 1 := cmpi .sge main_v9 main_v10
  let main_c_2 : IVec S_ 32 := constantI S_ 32 4#32
  let main_v12 : IVec S16 32 := broadcastInDim S16 ![] bcast_S_S16 main_c_2
  let main_v13 : IVec S16 32 := addi main_v7 main_v12
  let main_v14 : IVec S1x16 32 := broadcastInDim S1x16 ![1] bcast_S16_S1x16_1 main_v13
  let main_v15 : IVec S1024x16 32 := broadcastInDim S1024x16 ![0, 1] bcast_S1024x1_S1024x16_0_1 main_arg2
  let main_v16 : IVec S1024x16 32 := broadcastInDim S1024x16 ![0, 1] bcast_S1x16_S1024x16_0_1 main_v14
  let main_v17 : IVec S1024x16 1 := cmpi .slt main_v15 main_v16
  let main_v18 : IVec S1024x16 1 := andi main_v11 main_v17
  let main_v19 : FVec F S1024x16 .f32 := uitofp .f32 main_v18
  fn_part1 (F := F) main_v4 main_v19
-- ==== Pre_fits_ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S_ : Shape := ⟨0, ![]⟩
abbrev S16 : Shape := ⟨1, ![16]⟩
abbrev S1x16 : Shape := ⟨2, ![1, 16]⟩
abbrev S1024x16 : Shape := ⟨2, ![1024, 16]⟩
abbrev S16x64x16 : Shape := ⟨3, ![16, 64, 16]⟩
abbrev S16x16 : Shape := ⟨2, ![16, 16]⟩

class Facts : Prop where
  bcast_S_S1024x1 : S_.BroadcastsInDim S1024x1 (![] : Fin 0 → Fin S1024x1.rank)
  bcast_S_S16 : S_.BroadcastsInDim S16 (![] : Fin 0 → Fin S16.rank)
  bcast_S16_S1x16_1 : S16.BroadcastsInDim S1x16 (![1] : Fin 1 → Fin S1x16.rank)
  bcast_S1024x1_S1024x16_0_1 : S1024x1.BroadcastsInDim S1024x16 (![0, 1] : Fin 2 → Fin S1024x16.rank)
  bcast_S1x16_S1024x16_0_1 : S1x16.BroadcastsInDim S1024x16 (![0, 1] : Fin 2 → Fin S1024x16.rank)
  reducesTo_S1024x16_S16_d0 : S1024x16.ReducesTo [0] S16
  h_S_ : 0 < S_.numel
  shapeCasts_S1024x16_S16x64x16 : S1024x16.ShapeCasts S16x64x16
  reducesTo_S16x64x16_S16x16_d1 : S16x64x16.ReducesTo [1] S16x16
  bcast_S_S16x16 : S_.BroadcastsInDim S16x16 (![] : Fin 0 → Fin S16x16.rank)
  reducesTo_S1024x1_S_d0_1 : S1024x1.ReducesTo [0, 1] S_
  reducesTo_S16_S_d0 : S16.ReducesTo [0] S_
  reducesTo_S16x16_S_d0_1 : S16x16.ReducesTo [0, 1] S_

variable [Facts]

def fn_part1 {F : FTy → Type} [FloatOps F] (main_v4 : IVec S1024x1 1) (main_v19 : FVec F S1024x16 .f32) : IVec S_ 1 :=
  let main_cst : FVec F S_ .f32 := constant S_ .f32 0x00000000#32
  let main_v20 : FVec F S16 .f32 := (fun x v => Host.reduceAdd x v reducesTo_S1024x16_S16_d0 h_S_) main_v19 main_cst
  let main_cst_3 : FVec F S_ .f32 := constant S_ .f32 0x43000000#32
  let main_v21 : FVec F S16 .f32 := broadcastInDim S16 ![] bcast_S_S16 main_cst_3
  let main_v22 : IVec S16 1 := cmpf .ole main_v20 main_v21
  let main_v23 : FVec F S16x64x16 .f32 := shapeCast S16x64x16 main_v19 shapeCasts_S1024x16_S16x64x16
  let main_cst_4 : FVec F S_ .f32 := constant S_ .f32 0x00000000#32
  let main_v24 : FVec F S16x16 .f32 := (fun x v => Host.reduceAdd x v reducesTo_S16x64x16_S16x16_d1 h_S_) main_v23 main_cst_4
  let main_cst_5 : FVec F S_ .f32 := constant S_ .f32 0x41800000#32
  let main_v25 : FVec F S16x16 .f32 := broadcastInDim S16x16 ![] bcast_S_S16x16 main_cst_5
  let main_v26 : IVec S16x16 1 := cmpf .ole main_v24 main_v25
  let main_c_6 : IVec S_ 1 := constantI S_ 1 1#1
  let main_v27 : IVec S_ 1 := (fun x v => Host.reduce IntOp.andi x v reducesTo_S1024x1_S_d0_1 h_S_) main_v4 main_c_6
  let main_c_7 : IVec S_ 1 := constantI S_ 1 1#1
  let main_v28 : IVec S_ 1 := (fun x v => Host.reduce IntOp.andi x v reducesTo_S16_S_d0 h_S_) main_v22 main_c_7
  let main_v29 : IVec S_ 1 := andi main_v27 main_v28
  let main_c_8 : IVec S_ 1 := constantI S_ 1 1#1
  let main_v30 : IVec S_ 1 := (fun x v => Host.reduce IntOp.andi x v reducesTo_S16x16_S_d0_1 h_S_) main_v26 main_c_8
  let main_v31 : IVec S_ 1 := andi main_v29 main_v30
  main_v31

def fn {F : FTy → Type} [FloatOps F] (main_arg0 : FVec F S1024x512 .bf16) (main_arg1 : FVec F S512x64 .bf16) (main_arg2 : IVec S1024x1 32) (main_arg3 : FVec F S64x512x1024 .bf16) (main_arg4 : FVec F S512x1024 .bf16) : IVec S_ 1 :=
  let main_c : IVec S_ 32 := constantI S_ 32 0#32
  let main_v0 : IVec S1024x1 32 := broadcastInDim S1024x1 ![] bcast_S_S1024x1 main_c
  let main_v1 : IVec S1024x1 1 := cmpi .sge main_arg2 main_v0
  let main_c_0 : IVec S_ 32 := constantI S_ 32 64#32
  let main_v2 : IVec S1024x1 32 := broadcastInDim S1024x1 ![] bcast_S_S1024x1 main_c_0
  let main_v3 : IVec S1024x1 1 := cmpi .slt main_arg2 main_v2
  let main_v4 : IVec S1024x1 1 := andi main_v1 main_v3
  let main_v5 : IVec S16 32 := iotaInDim S16 32 0
  let main_c_1 : IVec S_ 32 := constantI S_ 32 4#32
  let main_v6 : IVec S16 32 := broadcastInDim S16 ![] bcast_S_S16 main_c_1
  let main_v7 : IVec S16 32 := muli main_v6 main_v5
  let main_v8 : IVec S1x16 32 := broadcastInDim S1x16 ![1] bcast_S16_S1x16_1 main_v7
  let main_v9 : IVec S1024x16 32 := broadcastInDim S1024x16 ![0, 1] bcast_S1024x1_S1024x16_0_1 main_arg2
  let main_v10 : IVec S1024x16 32 := broadcastInDim S1024x16 ![0, 1] bcast_S1x16_S1024x16_0_1 main_v8
  let main_v11 : IVec S1024x16 1 := cmpi .sge main_v9 main_v10
  let main_c_2 : IVec S_ 32 := constantI S_ 32 4#32
  let main_v12 : IVec S16 32 := broadcastInDim S16 ![] bcast_S_S16 main_c_2
  let main_v13 : IVec S16 32 := addi main_v7 main_v12
  let main_v14 : IVec S1x16 32 := broadcastInDim S1x16 ![1] bcast_S16_S1x16_1 main_v13
  let main_v15 : IVec S1024x16 32 := broadcastInDim S1024x16 ![0, 1] bcast_S1024x1_S1024x16_0_1 main_arg2
  let main_v16 : IVec S1024x16 32 := broadcastInDim S1024x16 ![0, 1] bcast_S1x16_S1024x16_0_1 main_v14
  let main_v17 : IVec S1024x16 1 := cmpi .slt main_v15 main_v16
  let main_v18 : IVec S1024x16 1 := andi main_v11 main_v17
  let main_v19 : FVec F S1024x16 .f32 := uitofp .f32 main_v18
  fn_part1 (F := F) main_v4 main_v19
-- ==== Kernel.lean ====
abbrev S1024x512 : Shape := ⟨2, ![1024, 512]⟩
abbrev S512x64 : Shape := ⟨2, ![512, 64]⟩
abbrev S1024x1 : Shape := ⟨2, ![1024, 1]⟩
abbrev S4x512x1024 : Shape := ⟨3, ![4, 512, 1024]⟩
abbrev S512x1024 : Shape := ⟨2, ![512, 1024]⟩
abbrev S64x1024 : Shape := ⟨2, ![64, 1024]⟩
abbrev S16x16x1152 : Shape := ⟨3, ![16, 16, 1152]⟩
abbrev S128x1152 : Shape := ⟨2, ![128, 1152]⟩
abbrev S16 : Shape := ⟨1, ![16]⟩
abbrev S_ : Shape := ⟨0, ![]⟩
abbrev S1 : Shape := ⟨1, ![1]⟩
abbrev S1024x64 : Shape := ⟨2, ![1024, 64]⟩
abbrev S1024 : Shape := ⟨1, ![1024]⟩
abbrev S1x1024 : Shape := ⟨2, ![1, 1024]⟩
abbrev S128x1 : Shape := ⟨2, ![128, 1]⟩
abbrev S1x128 : Shape := ⟨2, ![1, 128]⟩
abbrev S128x128 : Shape := ⟨2, ![128, 128]⟩
abbrev S1x1 : Shape := ⟨2, ![1, 1]⟩
abbrev S1024x128 : Shape := ⟨2, ![1024, 128]⟩
abbrev S128x512 : Shape := ⟨2, ![128, 512]⟩
abbrev S128x1024 : Shape := ⟨2, ![128, 1024]⟩
abbrev S1x512x1024 : Shape := ⟨3, ![1, 512, 1024]⟩
abbrev S128x127 : Shape := ⟨2, ![128, 127]⟩
abbrev S16x1 : Shape := ⟨2, ![16, 1]⟩
abbrev S16x128 : Shape := ⟨2, ![16, 128]⟩
abbrev S256x1 : Shape := ⟨2, ![256, 1]⟩
abbrev S1x16 : Shape := ⟨2, ![1, 16]⟩
abbrev S256x16 : Shape := ⟨2, ![256, 16]⟩
abbrev S256x128 : Shape := ⟨2, ![256, 128]⟩
abbrev S256x1152 : Shape := ⟨2, ![256, 1152]⟩
abbrev S1x16x1152 : Shape := ⟨3, ![1, 16, 1152]⟩
abbrev S16x1152 : Shape := ⟨2, ![16, 1152]⟩
abbrev S64x512 : Shape := ⟨2, ![64, 512]⟩
abbrev S1x64 : Shape := ⟨2, ![1, 64]⟩
abbrev S256x64 : Shape := ⟨2, ![256, 64]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S4x512x1024, .bf16⟩
  | .hbm, ⟨4, _⟩ => ⟨S512x1024, .bf16⟩
  | .hbm, ⟨5, _⟩ => ⟨S64x1024, .f32⟩
  | .local _ .vmem, ⟨0, _⟩ => ⟨S1024x512, .bf16⟩
  | .local _ .vmem, ⟨1, _⟩ => ⟨S512x64, .bf16⟩
  | .local _ .vmem, ⟨2, _⟩ => ⟨S1024x1, .i32⟩
  | .local _ .vmem, ⟨3, _⟩ => ⟨S4x512x1024, .bf16⟩
  | .local _ .vmem, ⟨4, _⟩ => ⟨S512x1024, .bf16⟩
  | .local _ .vmem, ⟨5, _⟩ => ⟨S64x1024, .f32⟩
  | .local _ .vmem, ⟨6, _⟩ => ⟨S16x16x1152, .bf16⟩
  | .local _ .vmem, ⟨7, _⟩ => ⟨S16x16x1152, .bf16⟩
  | .local _ .vmem, ⟨8, _⟩ => ⟨S128x1152, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 17 38 bufScoped semScoped dmaSemScoped tileCredit tileCredit_eq_zero tileCredit_pos).withBarriers [(0, 16)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 16

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v4 : BitVec 32 := Scalar.muli v2 c1_i32_1
  let v5 : BitVec 32 := Scalar.addi c0_i32 v4
  v5.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_dev2 : Nat :=
  let c0_i32_6 : BitVec 32 := 0#32
  let c0_i32_4 : BitVec 32 := 0#32
  let c1_i32_5 : BitVec 32 := 1#32
  let v8 : BitVec 32 := Scalar.muli c0_i32_4 c1_i32_5
  let v9 : BitVec 32 := Scalar.addi c0_i32_6 v8
  v9.toNat
def k0_dev3 : Nat :=
  let c0_i32_10 : BitVec 32 := 0#32
  let c1_i32_8 : BitVec 32 := 1#32
  let c1_i32_9 : BitVec 32 := 1#32
  let v12 : BitVec 32 := Scalar.muli c1_i32_8 c1_i32_9
  let v13 : BitVec 32 := Scalar.addi c0_i32_10 v12
  v13.toNat
def k0_dev4 : Nat :=
  let c0_i32_13 : BitVec 32 := 0#32
  let c2_i32 : BitVec 32 := 2#32
  let c1_i32_12 : BitVec 32 := 1#32
  let v16 : BitVec 32 := Scalar.muli c2_i32 c1_i32_12
  let v17 : BitVec 32 := Scalar.addi c0_i32_13 v16
  v17.toNat
def k0_dev5 : Nat :=
  let c0_i32_16 : BitVec 32 := 0#32
  let c3_i32 : BitVec 32 := 3#32
  let c1_i32_15 : BitVec 32 := 1#32
  let v20 : BitVec 32 := Scalar.muli c3_i32 c1_i32_15
  let v21 : BitVec 32 := Scalar.addi c0_i32_16 v20
  v21.toNat
def k0_dev6 : Nat :=
  let c0_i32_19 : BitVec 32 := 0#32
  let c4_i32 : BitVec 32 := 4#32
  let c1_i32_18 : BitVec 32 := 1#32
  let v24 : BitVec 32 := Scalar.muli c4_i32 c1_i32_18
  let v25 : BitVec 32 := Scalar.addi c0_i32_19 v24
  v25.toNat
def k0_dev7 : Nat :=
  let c0_i32_22 : BitVec 32 := 0#32
  let c5_i32 : BitVec 32 := 5#32
  let c1_i32_21 : BitVec 32 := 1#32
  let v28 : BitVec 32 := Scalar.muli c5_i32 c1_i32_21
  let v29 : BitVec 32 := Scalar.addi c0_i32_22 v28
  v29.toNat
def k0_dev8 : Nat :=
  let c0_i32_25 : BitVec 32 := 0#32
  let c6_i32 : BitVec 32 := 6#32
  let c1_i32_24 : BitVec 32 := 1#32
  let v32 : BitVec 32 := Scalar.muli c6_i32 c1_i32_24
  let v33 : BitVec 32 := Scalar.addi c0_i32_25 v32
  v33.toNat
def k0_dev9 : Nat :=
  let c0_i32_28 : BitVec 32 := 0#32
  let c7_i32 : BitVec 32 := 7#32
  let c1_i32_27 : BitVec 32 := 1#32
  let v36 : BitVec 32 := Scalar.muli c7_i32 c1_i32_27
  let v37 : BitVec 32 := Scalar.addi c0_i32_28 v36
  v37.toNat
def k0_dev10 : Nat :=
  let c0_i32_31 : BitVec 32 := 0#32
  let c8_i32 : BitVec 32 := 8#32
  let c1_i32_30 : BitVec 32 := 1#32
  let v40 : BitVec 32 := Scalar.muli c8_i32 c1_i32_30
  let v41 : BitVec 32 := Scalar.addi c0_i32_31 v40
  v41.toNat
def k0_dev11 : Nat :=
  let c0_i32_34 : BitVec 32 := 0#32
  let c9_i32 : BitVec 32 := 9#32
  let c1_i32_33 : BitVec 32 := 1#32
  let v44 : BitVec 32 := Scalar.muli c9_i32 c1_i32_33
  let v45 : BitVec 32 := Scalar.addi c0_i32_34 v44
  v45.toNat
def k0_dev12 : Nat :=
  let c0_i32_37 : BitVec 32 := 0#32
  let c10_i32 : BitVec 32 := 10#32
  let c1_i32_36 : BitVec 32 := 1#32
  let v48 : BitVec 32 := Scalar.muli c10_i32 c1_i32_36
  let v49 : BitVec 32 := Scalar.addi c0_i32_37 v48
  v49.toNat
def k0_dev13 : Nat :=
  let c0_i32_40 : BitVec 32 := 0#32
  let c11_i32 : BitVec 32 := 11#32
  let c1_i32_39 : BitVec 32 := 1#32
  let v52 : BitVec 32 := Scalar.muli c11_i32 c1_i32_39
  let v53 : BitVec 32 := Scalar.addi c0_i32_40 v52
  v53.toNat
def k0_dev14 : Nat :=
  let c0_i32_43 : BitVec 32 := 0#32
  let c12_i32 : BitVec 32 := 12#32
  let c1_i32_42 : BitVec 32 := 1#32
  let v56 : BitVec 32 := Scalar.muli c12_i32 c1_i32_42
  let v57 : BitVec 32 := Scalar.addi c0_i32_43 v56
  v57.toNat
def k0_dev15 : Nat :=
  let c0_i32_46 : BitVec 32 := 0#32
  let c13_i32 : BitVec 32 := 13#32
  let c1_i32_45 : BitVec 32 := 1#32
  let v60 : BitVec 32 := Scalar.muli c13_i32 c1_i32_45
  let v61 : BitVec 32 := Scalar.addi c0_i32_46 v60
  v61.toNat
def k0_dev16 : Nat :=
  let c0_i32_49 : BitVec 32 := 0#32
  let c14_i32 : BitVec 32 := 14#32
  let c1_i32_48 : BitVec 32 := 1#32
  let v64 : BitVec 32 := Scalar.muli c14_i32 c1_i32_48
  let v65 : BitVec 32 := Scalar.addi c0_i32_49 v64
  v65.toNat
def k0_dev17 : Nat :=
  let c0_i32_52 : BitVec 32 := 0#32
  let c15_i32 : BitVec 32 := 15#32
  let c1_i32_51 : BitVec 32 := 1#32
  let v68 : BitVec 32 := Scalar.muli c15_i32 c1_i32_51
  let v69 : BitVec 32 := Scalar.addi c0_i32_52 v68
  v69.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_168 : BitVec 32 := 0#32
  let c0_i32_169 : BitVec 32 := 0#32
  ![v2.toNat, 0, 0]
def k0_dev18 : Nat :=
  let c0_i32_167 : BitVec 32 := 0#32
  let c0_i32_165 : BitVec 32 := 0#32
  let c1_i32_166 : BitVec 32 := 1#32
  let v420 : BitVec 32 := Scalar.muli c0_i32_165 c1_i32_166
  let v421 : BitVec 32 := Scalar.addi c0_i32_167 v420
  v421.toNat
def k0_dev19 : Nat :=
  let c0_i32_179 : BitVec 32 := 0#32
  let c1_i32_177 : BitVec 32 := 1#32
  let c1_i32_178 : BitVec 32 := 1#32
  let v432 : BitVec 32 := Scalar.muli c1_i32_177 c1_i32_178
  let v433 : BitVec 32 := Scalar.addi c0_i32_179 v432
  v433.toNat
def k0_dev20 : Nat :=
  let c0_i32_191 : BitVec 32 := 0#32
  let c2_i32_189 : BitVec 32 := 2#32
  let c1_i32_190 : BitVec 32 := 1#32
  let v444 : BitVec 32 := Scalar.muli c2_i32_189 c1_i32_190
  let v445 : BitVec 32 := Scalar.addi c0_i32_191 v444
  v445.toNat
def k0_dev21 : Nat :=
  let c0_i32_203 : BitVec 32 := 0#32
  let c3_i32_201 : BitVec 32 := 3#32
  let c1_i32_202 : BitVec 32 := 1#32
  let v456 : BitVec 32 := Scalar.muli c3_i32_201 c1_i32_202
  let v457 : BitVec 32 := Scalar.addi c0_i32_203 v456
  v457.toNat
def k0_dev22 : Nat :=
  let c0_i32_215 : BitVec 32 := 0#32
  let c4_i32_213 : BitVec 32 := 4#32
  let c1_i32_214 : BitVec 32 := 1#32
  let v468 : BitVec 32 := Scalar.muli c4_i32_213 c1_i32_214
  let v469 : BitVec 32 := Scalar.addi c0_i32_215 v468
  v469.toNat
def k0_dev23 : Nat :=
  let c0_i32_227 : BitVec 32 := 0#32
  let c5_i32_225 : BitVec 32 := 5#32
  let c1_i32_226 : BitVec 32 := 1#32
  let v480 : BitVec 32 := Scalar.muli c5_i32_225 c1_i32_226
  let v481 : BitVec 32 := Scalar.addi c0_i32_227 v480
  v481.toNat
def k0_dev24 : Nat :=
  let c0_i32_239 : BitVec 32 := 0#32
  let c6_i32_237 : BitVec 32 := 6#32
  let c1_i32_238 : BitVec 32 := 1#32
  let v492 : BitVec 32 := Scalar.muli c6_i32_237 c1_i32_238
  let v493 : BitVec 32 := Scalar.addi c0_i32_239 v492
  v493.toNat
def k0_dev25 : Nat :=
  let c0_i32_251 : BitVec 32 := 0#32
  let c7_i32_249 : BitVec 32 := 7#32
  let c1_i32_250 : BitVec 32 := 1#32
  let v504 : BitVec 32 := Scalar.muli c7_i32_249 c1_i32_250
  let v505 : BitVec 32 := Scalar.addi c0_i32_251 v504
  v505.toNat
def k0_dev26 : Nat :=
  let c0_i32_263 : BitVec 32 := 0#32
  let c8_i32_261 : BitVec 32 := 8#32
  let c1_i32_262 : BitVec 32 := 1#32
  let v516 : BitVec 32 := Scalar.muli c8_i32_261 c1_i32_262
  let v517 : BitVec 32 := Scalar.addi c0_i32_263 v516
  v517.toNat
def k0_dev27 : Nat :=
  let c0_i32_275 : BitVec 32 := 0#32
  let c9_i32_273 : BitVec 32 := 9#32
  let c1_i32_274 : BitVec 32 := 1#32
  let v528 : BitVec 32 := Scalar.muli c9_i32_273 c1_i32_274
  let v529 : BitVec 32 := Scalar.addi c0_i32_275 v528
  v529.toNat
def k0_dev28 : Nat :=
  let c0_i32_287 : BitVec 32 := 0#32
  let c10_i32_285 : BitVec 32 := 10#32
  let c1_i32_286 : BitVec 32 := 1#32
  let v540 : BitVec 32 := Scalar.muli c10_i32_285 c1_i32_286
  let v541 : BitVec 32 := Scalar.addi c0_i32_287 v540
  v541.toNat
def k0_dev29 : Nat :=
  let c0_i32_299 : BitVec 32 := 0#32
  let c11_i32_297 : BitVec 32 := 11#32
  let c1_i32_298 : BitVec 32 := 1#32
  let v552 : BitVec 32 := Scalar.muli c11_i32_297 c1_i32_298
  let v553 : BitVec 32 := Scalar.addi c0_i32_299 v552
  v553.toNat
def k0_dev30 : Nat :=
  let c0_i32_311 : BitVec 32 := 0#32
  let c12_i32_309 : BitVec 32 := 12#32
  let c1_i32_310 : BitVec 32 := 1#32
  let v564 : BitVec 32 := Scalar.muli c12_i32_309 c1_i32_310
  let v565 : BitVec 32 := Scalar.addi c0_i32_311 v564
  v565.toNat
def k0_dev31 : Nat :=
  let c0_i32_323 : BitVec 32 := 0#32
  let c13_i32_321 : BitVec 32 := 13#32
  let c1_i32_322 : BitVec 32 := 1#32
  let v576 : BitVec 32 := Scalar.muli c13_i32_321 c1_i32_322
  let v577 : BitVec 32 := Scalar.addi c0_i32_323 v576
  v577.toNat
def k0_dev32 : Nat :=
  let c0_i32_335 : BitVec 32 := 0#32
  let c14_i32_333 : BitVec 32 := 14#32
  let c1_i32_334 : BitVec 32 := 1#32
  let v588 : BitVec 32 := Scalar.muli c14_i32_333 c1_i32_334
  let v589 : BitVec 32 := Scalar.addi c0_i32_335 v588
  v589.toNat
def k0_dev33 : Nat :=
  let c0_i32_347 : BitVec 32 := 0#32
  let c15_i32_345 : BitVec 32 := 15#32
  let c1_i32_346 : BitVec 32 := 1#32
  let v600 : BitVec 32 := Scalar.muli c15_i32_345 c1_i32_346
  let v601 : BitVec 32 := Scalar.addi c0_i32_347 v600
  v601.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32_352 : BitVec 32 := 64#32
  let v610 : BitVec 32 := Scalar.muli v2 c64_i32_352
  let v611 : Index := Scalar.indexCast v610
  let c0_353 : Index := 0#32
  ![v611.toNat, 0]
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1024x512 : Shape := ⟨2, ![1024, 512]⟩
abbrev S512x64 : Shape := ⟨2, ![512, 64]⟩
abbrev S1024x1 : Shape := ⟨2, ![1024, 1]⟩
abbrev S64x512x1024 : Shape := ⟨3, ![64, 512, 1024]⟩
abbrev S512x1024 : Shape := ⟨2, ![512, 1024]⟩
abbrev S1024x64 : Shape := ⟨2, ![1024, 64]⟩
abbrev S_ : Shape := ⟨0, ![]⟩
abbrev S1024 : Shape := ⟨1, ![1024]⟩
abbrev S1024x1024 : Shape := ⟨2, ![1024, 1024]⟩
abbrev S1024x1x1 : Shape := ⟨3, ![1024, 1, 1]⟩
abbrev S1 : Shape := ⟨1, ![1]⟩
abbrev S1x1x1 : Shape := ⟨3, ![1, 1, 1]⟩
abbrev S1024x512x1024 : Shape := ⟨3, ![1024, 512, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x64, .bf16⟩
  | .hbm, ⟨2, _⟩ => ⟨S1024x1, .i32⟩
  | .hbm, ⟨3, _⟩ => ⟨S64x512x1024, .bf16⟩
  | .hbm, ⟨4, _⟩ => ⟨S512x1024, .bf16⟩
  | .hbm, ⟨5, _⟩ => ⟨S1024x512, .f32⟩
  | .hbm, ⟨6, _⟩ => ⟨S512x64, .f32⟩
  | .hbm, ⟨7, _⟩ => ⟨S64x512x1024, .f32⟩
  | .hbm, ⟨8, _⟩ => ⟨S512x1024, .f32⟩
  | .hbm, ⟨9, _⟩ => ⟨S1024x64, .f32⟩
  | .hbm, ⟨10, _⟩ => ⟨S_, .f32⟩
  | .hbm, ⟨11, _⟩ => ⟨S1024, .f32⟩
  | .hbm, ⟨12, _⟩ => ⟨S1024x1, .f32⟩
  | .hbm, ⟨13, _⟩ => ⟨S1024x64, .f32⟩
  | .hbm, ⟨14, _⟩ => ⟨S1024x64, .f32⟩
  | .hbm, ⟨15, _⟩ => ⟨S1024x64, .f32⟩
  | .hbm, ⟨16, _⟩ => ⟨S_, .f32⟩
  | .hbm, ⟨17, _⟩ => ⟨S1024, .f32⟩
  | .hbm, ⟨18, _⟩ => ⟨S1024x1, .f32⟩
  | .hbm, ⟨19, _⟩ => ⟨S1024x64, .f32⟩
  | .hbm, ⟨20, _⟩ => ⟨S1024x64, .f32⟩
  | .hbm, ⟨21, _⟩ => ⟨S1024x1024, .f32⟩
  | .hbm, ⟨22, _⟩ => ⟨S_, .i32⟩
  | .hbm, ⟨23, _⟩ => ⟨S1024x1, .i32⟩
  | .hbm, ⟨24, _⟩ => ⟨S1024x1, .i1⟩
  | .hbm, ⟨25, _⟩ => ⟨S_, .i32⟩
  | .hbm, ⟨26, _⟩ => ⟨S1024x1, .i32⟩
  | .hbm, ⟨27, _⟩ => ⟨S1024x1, .i32⟩
  | .hbm, ⟨28, _⟩ => ⟨S1024x1, .i32⟩
  | .hbm, ⟨29, _⟩ => ⟨S1024x1x1, .i32⟩
  | .hbm, ⟨30, _⟩ => ⟨S1, .i32⟩
  | .hbm, ⟨31, _⟩ => ⟨S_, .i32⟩
  | .hbm, ⟨32, _⟩ => ⟨S1024x1x1, .i32⟩
  | .hbm, ⟨33, _⟩ => ⟨S1024x1x1, .i1⟩
  | .hbm, ⟨34, _⟩ => ⟨S1x1x1, .i32⟩
  | .hbm, ⟨35, _⟩ => ⟨S1024x1x1, .i32⟩
  | .hbm, ⟨36, _⟩ => ⟨S1024x1x1, .i1⟩
  | .hbm, ⟨37, _⟩ => ⟨S1024x1x1, .i1⟩
  | .hbm, ⟨38, _⟩ => ⟨S_, .i1⟩
  | .hbm, ⟨39, _⟩ => ⟨S1024x1, .i1⟩
  | .hbm, ⟨40, _⟩ => ⟨S1024x1, .f32⟩
  | .hbm, ⟨41, _⟩ => ⟨S_, .f32⟩
  | .hbm, ⟨42, _⟩ => ⟨S1024x1, .f32⟩
  | .hbm, ⟨43, _⟩ => ⟨S1024x1, .f32⟩
  | .hbm, ⟨44, _⟩ => ⟨S1024, .i32⟩
  | .hbm, ⟨45, _⟩ => ⟨S_, .i32⟩
  | .hbm, ⟨46, _⟩ => ⟨S1024, .i32⟩
  | .hbm, ⟨47, _⟩ => ⟨S1024, .i1⟩
  | .hbm, ⟨48, _⟩ => ⟨S_, .i32⟩
  | .hbm, ⟨49, _⟩ => ⟨S1024, .i32⟩
  | .hbm, ⟨50, _⟩ => ⟨S1024, .i32⟩
  | .hbm, ⟨51, _⟩ => ⟨S1024, .i32⟩
  | .hbm, ⟨52, _⟩ => ⟨S1024x1, .i32⟩
  | .hbm, ⟨53, _⟩ => ⟨S1024x512x1024, .f32⟩
  | .hbm, ⟨54, _⟩ => ⟨S1024x1024, .f32⟩
  | .hbm, ⟨55, _⟩ => ⟨S1024x1024, .f32⟩
  | .hbm, ⟨56, _⟩ => ⟨S1024x1024, .f32⟩
  | .hbm, ⟨57, _⟩ => ⟨S1024x1024, .f32⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_cst : Ref sig .tc := ⟨.hbm, 41, rfl⟩
abbrev main_call0_v14 : Ref sig .tc := ⟨.hbm, 42, rfl⟩
abbrev main_v15 : Ref sig .tc := ⟨.hbm, 43, rfl⟩
abbrev main_v16 : Ref sig .tc := ⟨.hbm, 44, rfl⟩
abbrev main_c : Ref sig .tc := ⟨.hbm, 45, rfl⟩
abbrev main_v17 : Ref sig .tc := ⟨.hbm, 46, rfl⟩
abbrev main_v18 : Ref sig .tc := ⟨.hbm, 47, rfl⟩
abbrev main_c_1 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩

abbrev nD : Nat := 1
abbrev τ : Topo := Topo.v7x

variable {F : FTy → Type} [FloatOps F]
-- ==== Proof.Cells.lean ====
/-
The exchange's cells, what each hands over, and in what order devices wait.

Sixteen devices. Each device `c` has

* a barrier cell, which it signals itself and waits on once;
* sixteen CREDIT cells: cell `d` of device `c` is signalled by device `d`, which thereby hands `c` the slot `c` of
  its landing buffer (`d` is ready to be written to by `c`);
* sixteen SEND cells: cell `d` is credited when `c`'s own copy to device `d` has left, and gives back the slot `d` of
  `c`'s outgoing buffer;
* sixteen RECEIVE cells: cell `s` is credited when device `s`'s copy to `c` has landed, and hands over the slot `s` of
  `c`'s landing buffer, holding slot `c` of device `s`'s outgoing buffer.

Every cell has one duty, at round 0. The outgoing buffers' contents `pk` are a parameter here.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Slots -/

theorem slot_inb (k : Fin 16) : ∀ a, (![k.val, 0, 0] : Fin 3 → ℕ) a + S1x16x1152.size a ≤ S16x16x1152.size a := by
  revert k; decide

/-- A slot of a message buffer: one leading row, its leading axis dropped. -/
abbrev slotM (b : Memref sig .tc .vmem S16x16x1152 .bf16) (off : Fin 3 → ℕ) (inb : ∀ a, off a + S1x16x1152.size a ≤ S16x16x1152.size a) :
    Memref sig .tc .vmem S16x1152 .bf16 :=
  (b.slice (Rect.unit (s := S16x16x1152) off S1x16x1152.size inb) (fun _ => rfl)).squeeze S16x1152 squeezes_S1x16x1152_S16x1152

abbrev sndM : Memref sig .tc .vmem S16x16x1152 .bf16 := Memref.whole cc0_scratch0
abbrev rcvM : Memref sig .tc .vmem S16x16x1152 .bf16 := Memref.whole cc0_scratch1
abbrev sndSlot (k : Fin 16) : Memref sig .tc .vmem S16x1152 .bf16 := slotM sndM ![k.val, 0, 0] (slot_inb k)
abbrev rcvSlot (k : Fin 16) : Memref sig .tc .vmem S16x1152 .bf16 := slotM rcvM ![k.val, 0, 0] (slot_inb k)

/-- The elements of slot `k`. -/
def slotSet (k : Fin 16) : Finset S16x16x1152.Idx := (Rect.unit (s := S16x16x1152) ![k.val, 0, 0] S1x16x1152.size (slot_inb k)).set

theorem snd_set (k : Fin 16) : (sndSlot k).view.set = slotSet k := by
  show ((View.slice (View.whole cc0_scratch0) _).reshape _ _).set = _
  rw [View.set_reshape, View.set_slice]
  exact Finset.map_refl
theorem rcv_set (k : Fin 16) : (rcvSlot k).view.set = slotSet k := by
  show ((View.slice (View.whole cc0_scratch1) _).reshape _ _).set = _
  rw [View.set_reshape, View.set_slice]
  exact Finset.map_refl

theorem slot_disjoint (k k' : Fin 16) (h : k ≠ k') : Disjoint (slotSet k) (slotSet k') :=
  Ring.lead_disjoint (s := S16x16x1152) (0 : Fin 3) 1 (fun b => ![b.val, 0, 0]) S1x16x1152.size slot_inb (fun b => (Nat.one_mul _).symm) rfl k k' h
theorem slot_cover : Finset.univ.biUnion slotSet = Finset.univ :=
  Ring.lead_cover (s := S16x16x1152) (0 : Fin 3) 1 (fun b => ![b.val, 0, 0]) S1x16x1152.size slot_inb (fun b => (Nat.one_mul _).symm)
    (fun b a ha => by fin_cases a <;> first | exact absurd rfl ha | rfl) rfl
    (fun a ha => by fin_cases a <;> first | exact absurd rfl ha | rfl) rfl

/-- Reading slot `k'` and putting it in slot `k`: element `i` of slot `k` takes the source's element with leading
    coordinate `k'`. -/
def moveLead (k' : Fin 16) (i : S16x16x1152.Idx) : S16x16x1152.Idx := fun a => match a with
  | ⟨0, _⟩ => k'
  | ⟨1, _⟩ => i 1
  | ⟨2, _⟩ => i 2

/-- What device `c`'s landing buffer holds after all copies: slot `s` is slot `c` of device `s`'s outgoing buffer. -/
def landed (pk : Dev nD → S16x16x1152.Idx → Elt F .bf16) (c : Dev nD) : S16x16x1152.Idx → Elt F .bf16 :=
  fun i => pk (i 0 : Fin 16) (moveLead c i)

theorem emb_move (k k' : Fin 16) (j : S16x1152.Idx) : (sndSlot k').view.emb j = moveLead k' ((rcvSlot k).view.emb j) := by
  funext a
  have h0 : ((Shape.reshapeEquiv (squeezes_S1x16x1152_S16x1152).numel_eq j : S1x16x1152.Idx) 0).val = 0 := by
    have := ((Shape.reshapeEquiv (squeezes_S1x16x1152_S16x1152).numel_eq j : S1x16x1152.Idx) 0).isLt
    exact Nat.lt_one_iff.mp this
  apply Fin.ext
  match a with
  | ⟨0, _⟩ => exact (congrArg (fun n => k'.val + 1 * n) h0).trans (show k'.val + 1 * 0 = k'.val by omega)
  | ⟨1, _⟩ => rfl
  | ⟨2, _⟩ => rfl

theorem emb_lead (k : Fin 16) (j : S16x1152.Idx) : ((rcvSlot k).view.emb j : S16x16x1152.Idx) 0 = k := by
  have h0 : ((Shape.reshapeEquiv (squeezes_S1x16x1152_S16x1152).numel_eq j : S1x16x1152.Idx) 0).val = 0 := by
    have := ((Shape.reshapeEquiv (squeezes_S1x16x1152_S16x1152).numel_eq j : S1x16x1152.Idx) 0).isLt
    exact Nat.lt_one_iff.mp this
  exact Fin.ext ((congrArg (fun n => k.val + 1 * n) h0).trans (by omega))

omit [FloatOps F] in
/-- A copy of `c`'s slot `k` into slot `c` of device `k` leaves there what `landed` says. -/
theorem landed_write (pk : Dev nD → S16x16x1152.Idx → Elt F .bf16) (c k : Dev nD) (fd : S16x16x1152.Idx → Elt F .bf16) :
    ∀ i ∈ (rcvSlot (c : Fin 16)).view.set,
      (rcvSlot (c : Fin 16)).view.write (Elt F) fd ((sndSlot (k : Fin 16)).view.read (Elt F) (pk c)) Finset.univ i = landed pk k i := by
  intro i hi
  obtain ⟨j, -, rfl⟩ := Finset.mem_map.mp hi
  rw [View.write_emb_of_mem _ _ (Finset.mem_univ j)]
  show pk c ((sndSlot (k : Fin 16)).view.emb j) = pk _ (moveLead k _)
  rw [emb_move c k j]
  exact congrArg (fun x => pk x (moveLead k ((rcvSlot (c : Fin 16)).view.emb j))) (emb_lead c j).symm

/-! ## Semaphores and cells -/

abbrev barS : Sem sig := (SemArray.scalar (sig.barrier 0 rfl) : Sems sig S_).sem
theorem one_inb (k : Fin 16) : ∀ a, (![k.val] : Fin 1 → ℕ) a + S1.size a ≤ S16.size a := by revert k; decide

/-- One semaphore of a family of sixteen. -/
abbrev semAt {α : Type} (A : SemArray α S16) (off : Fin 1 → ℕ) (inb : ∀ a, off a + S1.size a ≤ S16.size a) : α :=
  ((A.slice (Rect.unit (s := S16) off S1.size inb)).squeeze S_ squeezes_S1_S_).sem

def crS (k : Fin 16) : Sem sig := semAt cc0_scratch5 ![k.val] (one_inb k)
def sdS (k : Fin 16) : DmaSem sig := semAt cc0_scratch3 ![k.val] (one_inb k)
def rvS (k : Fin 16) : DmaSem sig := semAt cc0_scratch4 ![k.val] (one_inb k)

theorem crS_val : ∀ k : Fin 16, (crS k).val = k.val := by decide +kernel
theorem sdS_val : ∀ k : Fin 16, (sdS k).val = k.val + 6 := by decide +kernel
theorem rvS_val : ∀ k : Fin 16, (rvS k).val = k.val + 22 := by decide +kernel
theorem barS_val : (barS : Sem sig).val = 16 := by decide +kernel

/-- A device's cells: the barrier, or one of sixteen of the three families 0 credit, 1 send, 2 receive. -/
abbrev Ck : Type := Option (Fin 3 × Fin 16)

def famSem : Fin 3 × Fin 16 → SemLoc sig
  | (0, k) => .reg (crS k)
  | (1, k) => .dma (sdS k)
  | (2, k) => .dma (rvS k)
def csem : Ck → SemLoc sig
  | none => .reg barS
  | some x => famSem x

/-- Which cell a semaphore is. -/
def kind : SemLoc sig → Option Ck
  | .reg s => if h : s.val < 16 then some (some (0, ⟨s.val, h⟩)) else some none
  | .dma s => if h : s.val < 6 then none
      else if h' : s.val - 6 < 16 then some (some (1, ⟨s.val - 6, h'⟩))
      else if h'' : s.val - 22 < 16 then some (some (2, ⟨s.val - 22, h''⟩)) else none

theorem kind_cr (k : Fin 16) : kind (.reg (crS k)) = some (some (0, k)) := by
  unfold kind; simp only [crS_val, k.isLt, dif_pos]
theorem kind_sd (k : Fin 16) : kind (.dma (sdS k)) = some (some (1, k)) := by
  unfold kind; simp only [sdS_val, Nat.add_sub_cancel, k.isLt, dif_pos]; rw [dif_neg (by omega)]
theorem kind_rv (k : Fin 16) : kind (.dma (rvS k)) = some (some (2, k)) := by
  unfold kind; simp only [rvS_val, Nat.add_sub_cancel, k.isLt, dif_pos]; rw [dif_neg (by omega), dif_neg (by omega)]
theorem kind_bar : kind (.reg barS) = some none := by
  unfold kind; simp only [barS_val]; rw [dif_neg (by omega)]
theorem kind_csem (x : Ck) : kind (csem x) = some x := by
  match x with
  | none => exact kind_bar
  | some (0, k) => exact kind_cr k
  | some (1, k) => exact kind_sd k
  | some (2, k) => exact kind_rv k
theorem csem_injective : Function.Injective csem := fun x y h => Option.some.inj ((kind_csem x).symm.trans ((congrArg kind h).trans (kind_csem y)))

abbrev barCell (c : Dev nD) : GSem nD τ sig := ((c : Thread nD τ), .reg barS)
abbrev crCell (c : Dev nD) (k : Fin 16) : GSem nD τ sig := ((c : Thread nD τ), .reg (crS k))
abbrev sdCell (c : Dev nD) (k : Fin 16) : GSem nD τ sig := ((c : Thread nD τ), .dma (sdS k))
abbrev rvCell (c : Dev nD) (k : Fin 16) : GSem nD τ sig := ((c : Thread nD τ), .dma (rvS k))
abbrev kcell (ck : Dev nD × Ck) : GSem nD τ sig := ((ck.1 : Thread nD τ), csem ck.2)

theorem kcell_injective : Function.Injective kcell := by
  rintro ⟨c, x⟩ ⟨c', x'⟩ h
  have h1 : c = c' := congrArg (fun g : GSem nD τ sig => g.1.1) h
  have h2 : x = x' := csem_injective (congrArg (fun g : GSem nD τ sig => g.2) h)
  rw [h1, h2]

/-- What one slot's copy credits. -/
def N : ℕ := (rcvSlot 0).view.dmaCredit
theorem N_pos : 0 < N := View.dmaCredit_pos _ (by decide)
theorem credit_rcv (k : Fin 16) : (rcvSlot k).view.dmaCredit = N := rfl
theorem credit_snd (k : Fin 16) : (sndSlot k).view.dmaCredit = N := rfl

/-! ## Contents in hand -/

variable (pk : Dev nD → S16x16x1152.Idx → Elt F .bf16)

abbrev rcvPts (c : Dev nD) (k : Fin 16) (f : S16x16x1152.Idx → Elt F .bf16) : sProp 𝕄 :=
  (rcvSlot k).view.loc (c : Thread nD τ) ↦[(rcvSlot k).view.set]{fullShare} f
abbrev sndPts (c : Dev nD) (k : Fin 16) (f : S16x16x1152.Idx → Elt F .bf16) : sProp 𝕄 :=
  (sndSlot k).view.loc (c : Thread nD τ) ↦[(sndSlot k).view.set]{fullShare} f

omit [FloatOps F] in
/-- A landing buffer whole is its sixteen slots. -/
theorem rcv_slots (c : Dev nD) (f : S16x16x1152.Idx → Elt F .bf16) :
    (((c : Thread nD τ).loc cc0_scratch1) ↦{fullShare} (f : Buf (Elt F) ((c : Thread nD τ).loc cc0_scratch1)) : sProp 𝕄)
      = bigSep Finset.univ fun k => rcvPts c k f := by
  refine (Ring.pointsTo_blocks slotSet slot_disjoint slot_cover _).trans (Idealize.SL.BI.bigSep_congr fun k _ => ?_)
  unfold rcvPts; rw [rcv_set]
omit [FloatOps F] in
/-- An outgoing buffer whole is its sixteen slots. -/
theorem snd_slots (c : Dev nD) (f : S16x16x1152.Idx → Elt F .bf16) :
    (((c : Thread nD τ).loc cc0_scratch0) ↦{fullShare} (f : Buf (Elt F) ((c : Thread nD τ).loc cc0_scratch0)) : sProp 𝕄)
      = bigSep Finset.univ fun k => sndPts c k f := by
  refine (Ring.pointsTo_blocks slotSet slot_disjoint slot_cover _).trans (Idealize.SL.BI.bigSep_congr fun k _ => ?_)
  unfold sndPts; rw [snd_set]

/-! ## The schedule -/

/-- What a cell of device `c` hands over. -/
def pay (c : Dev nD) : Ck → sProp 𝕄
  | none => iprop(emp)
  | some (0, d) => iprop((∃ f, rcvPts (d : Dev nD) c f) ∗ reached ER (rvCell (d : Dev nD) c) 0)
  | some (1, d) => sndPts c d (pk c)
  | some (2, s) => rcvPts c s (landed pk c)

omit [FloatOps F] in
instance pay_storable (c : Dev nD) (x : Ck) : BI.Storable (upEmb : UEmb _ 𝕄) (pay pk c x) := by
  match x with
  | none => unfold pay; infer_instance
  | some (0, d) => unfold pay; infer_instance
  | some (1, d) => unfold pay; infer_instance
  | some (2, d) => unfold pay; infer_instance

/-- Units each cell's duty is worth. -/
def worth : Ck → ℕ
  | none => 1
  | some (0, _) => 1
  | some _ => N

theorem worth_pos (x : Ck) : 0 < worth x := by
  match x with
  | none => exact Nat.one_pos
  | some (0, _) => exact Nat.one_pos
  | some (1, _) => exact N_pos
  | some (2, _) => exact N_pos

def Rd : Rounds.Schedule (GSem nD τ sig) Unit 𝕄 where
  duties g r := if r = 0 ∧ g.1.2 = .tc ∧ (kind g.2).isSome then {()} else ∅
  unitless _ := False
  amount g _ _ := ((kind g.2).map worth).getD 1
  payload g _ _ := ((kind g.2).map (pay pk g.1.1)).getD iprop(emp)
  amount_pos g _ _ _ := by
    cases h : kind g.2 with
    | none => exact Nat.one_pos
    | some x => exact worth_pos x

instance Rd_payload_storable (g : GSem nD τ sig) (r : ℕ) (d : Unit) :
    BI.Storable (upEmb : UEmb _ 𝕄) ((Rd (F := F) pk).payload g r d) := by
  show BI.Storable upEmb (((kind g.2).map (pay pk g.1.1)).getD iprop(emp))
  cases h : kind g.2 with
  | none => show BI.Storable upEmb (iprop(emp)); infer_instance
  | some x => exact pay_storable pk g.1.1 x

section Tables
variable (c : Dev nD) (sm : SemLoc sig) (x : Ck) (hx : kind sm = some x)
include hx

omit [FloatOps F] in
theorem duties_at : (Rd (F := F) pk).duties ((c : Thread nD τ), sm) 0 = {()} := by
  dsimp only [Rd]; rw [hx]; exact if_pos ⟨rfl, rfl, rfl⟩
omit [FloatOps F] in
theorem amount_at (u : Unit) : (Rd (F := F) pk).amount ((c : Thread nD τ), sm) 0 u = worth x := by dsimp only [Rd]; rw [hx]; rfl
omit [FloatOps F] in
theorem payload_at (u : Unit) : (Rd (F := F) pk).payload ((c : Thread nD τ), sm) 0 u = pay pk c x := by dsimp only [Rd]; rw [hx]; rfl
omit [FloatOps F] in
theorem expect_at : (Rd (F := F) pk).expect ((c : Thread nD τ), sm) 0 = worth x := by
  unfold Schedule.expect Schedule.amountOf; rw [duties_at pk c sm x hx, Finset.sum_singleton, amount_at pk c sm x hx]
omit [FloatOps F] in
theorem rest_at : bigSep ((Rd (F := F) pk).duties ((c : Thread nD τ), sm) 0 \ ∅) (fun d => (Rd (F := F) pk).payload ((c : Thread nD τ), sm) 0 d) = pay pk c x := by
  rw [Finset.sdiff_empty, duties_at pk c sm x hx, bigSep_singleton, payload_at pk c sm x hx]
end Tables

omit [FloatOps F] in
theorem duties_later (g : GSem nD τ sig) : ∀ r, 1 ≤ r → (Rd (F := F) pk).duties g r = ∅ :=
  fun r hr => by dsimp only [Rd]; rw [if_neg fun h => by omega]

end Cert.Exchange
-- ==== Proof.Order.lean ====
/-
What each device owes, and why no wait can be stuck.

Levels: sends and the staging copies 0, the barrier 1, credits 2, receives 3. A device waits on a cell only while
everything it still owes lies at a higher level.
-/
module

public import proofs.«01_k».proof.Proof.Cells

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet mem_rangeSet rangeSet_head head_not_mem_rangeSet rangeSet_empty rangeSet_univ)

variable {F : FTy → Type} [FloatOps F]

local notation "𝕄" => MT nD τ sig Unit (Elt F) ℕ UU ℕ

/-- The credit signals device `c` has still to make: to devices `n`, `n + 1`, … -/
def OCr (c : Dev nD) (n : ℕ) : CellTallies nD τ sig Unit := ∑ d ∈ rangeSet 16 n 16, tallyAt (crCell (d : Dev nD) c) () 1
/-- The copies device `c` has still to make. -/
def ORv (c : Dev nD) (n : ℕ) : CellTallies nD τ sig Unit := ∑ d ∈ rangeSet 16 n 16, tallyAt (rvCell (d : Dev nD) c) () N
/-- What device `c` owes at launch. -/
def O₀ (c : Dev nD) : CellTallies nD τ sig Unit := (OCr c 0 + ORv c 0) + tallyAt (barCell c) () 1

theorem OCr_head (c : Dev nD) (d : Fin 16) : OCr c d.val = OCr c (d.val + 1) + tallyAt (crCell (d : Dev nD) c) () 1 := by
  unfold OCr
  rw [rangeSet_head d.isLt d.isLt, Finset.sum_insert (head_not_mem_rangeSet d.isLt), add_comm]
theorem ORv_head (c : Dev nD) (d : Fin 16) : ORv c d.val = ORv c (d.val + 1) + tallyAt (rvCell (d : Dev nD) c) () N := by
  unfold ORv
  rw [rangeSet_head d.isLt d.isLt, Finset.sum_insert (head_not_mem_rangeSet d.isLt), add_comm]
theorem OCr_end (c : Dev nD) : OCr c 16 = 0 := by unfold OCr; rw [rangeSet_empty le_rfl, Finset.sum_empty]
theorem ORv_end (c : Dev nD) : ORv c 16 = 0 := by unfold ORv; rw [rangeSet_empty le_rfl, Finset.sum_empty]

theorem sum_tally_pos {S : Finset (Fin 16)} {h : Fin 16 → GSem nD τ sig} {k : ℕ} {g : GSem nD τ sig} {u : Unit}
    (hp : 0 < (∑ d ∈ S, (tallyAt (h d) () k : CellTallies nD τ sig Unit)) g u) : ∃ d, g = h d := by
  by_contra hn
  rw [Finset.sum_apply, Finsupp.finset_sum_apply, Finset.sum_eq_zero (fun d _ => by
    rw [tallyAt_apply, if_neg (fun h' => hn ⟨d, h'.1⟩)])] at hp
  exact Nat.lt_irrefl 0 hp

theorem OCr_pos {c : Dev nD} {n : ℕ} {g : GSem nD τ sig} {u : Unit} (h : 0 < OCr c n g u) : ∃ d : Dev nD, g = crCell d c := sum_tally_pos h
theorem ORv_pos {c : Dev nD} {n : ℕ} {g : GSem nD τ sig} {u : Unit} (h : 0 < ORv c n g u) : ∃ d : Dev nD, g = rvCell d c := sum_tally_pos h
theorem add_pos_cases {A B : CellTallies nD τ sig Unit} {g : GSem nD τ sig} {u : Unit} (h : 0 < (A + B) g u) : 0 < A g u ∨ 0 < B g u := by
  rw [Pi.add_apply, Finsupp.add_apply] at h; omega
theorem tally_pos {g g' : GSem nD τ sig} {k : ℕ} {u : Unit} (h : 0 < (tallyAt g' () k : CellTallies nD τ sig Unit) g u) : g = g' := by
  by_contra hn
  rw [tallyAt_apply, if_neg (fun h' => hn h'.1)] at h
  exact Nat.lt_irrefl 0 h

def rank : Option Ck → ℕ
  | some none => 1
  | some (some (0, _)) => 2
  | some (some (2, _)) => 3
  | _ => 0

def L (g : GSem nD τ sig) : Finset Unit := if g.1.2 = .tc then {()} else ∅
def lv (g : GSem nD τ sig) (_ : Unit) : ℕ := rank (kind g.2)

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- A device may wait on a semaphore ranked below everything it owes. -/
theorem mayWait_of (c : Dev nD) (sm : SemLoc sig) (O : CellTallies nD τ sig Unit)
    (hO : ∀ g u, 0 < O g u → g.1.2 = .tc ∧ rank (kind sm) < rank (kind g.2)) :
    (levAts L lv : sProp 𝕄) ⊢ MayWait (c : Thread nD τ) sm () O :=
  MayOwe.of_cut (L := L) (lev := lv) (rank (kind sm))
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_rfl)
    (fun g u hg => (hO g u hg).2)

theorem rank_cr (k : Fin 16) : rank (kind (.reg (crS k))) = 2 := by rw [kind_cr]; rfl
theorem rank_rv (k : Fin 16) : rank (kind (.dma (rvS k))) = 3 := by rw [kind_rv]; rfl
theorem rank_bar : rank (kind (.reg barS)) = 1 := by rw [kind_bar]; rfl

theorem rest_pos {c : Dev nD} {n k : ℕ} {g : GSem nD τ sig} {u : Unit} (h : 0 < (OCr c n + ORv c k) g u) : g.1.2 = .tc ∧ 2 ≤ rank (kind g.2) := by
  rcases add_pos_cases h with h | h
  · obtain ⟨d, rfl⟩ := OCr_pos h; exact ⟨rfl, by rw [rank_cr]⟩
  · obtain ⟨d, rfl⟩ := ORv_pos h; exact ⟨rfl, by rw [rank_rv]; omega⟩

omit [FloatOps F] in
theorem mayWait_bar (c : Dev nD) : (levAts L lv : sProp 𝕄) ⊢ MayWait (c : Thread nD τ) (.reg barS) () (OCr c 0 + ORv c 0) :=
  mayWait_of c _ _ fun g u h => ⟨(rest_pos h).1, by rw [rank_bar]; exact (rest_pos h).2⟩
omit [FloatOps F] in
theorem mayWait_cr (c : Dev nD) (k : Fin 16) (n : ℕ) : (levAts L lv : sProp 𝕄) ⊢ MayWait (c : Thread nD τ) (.reg (crS k)) () (ORv c n) :=
  mayWait_of c _ _ fun g u h => by
    obtain ⟨d, rfl⟩ := ORv_pos h; exact ⟨rfl, by rw [rank_cr, rank_rv]; omega⟩
omit [FloatOps F] in
theorem mayWait_stage (c : Dev nD) (q : DmaSem sig) (hq : rank (kind (.dma q)) = 0) (O : CellTallies nD τ sig Unit) (hO : O = O₀ c ∨ O = 0) :
    (levAts L lv : sProp 𝕄) ⊢ MayWait (c : Thread nD τ) (.dma q) () O := by
  rcases hO with rfl | rfl
  · refine mayWait_of c _ _ fun g u h => ?_
    rw [hq]
    rcases add_pos_cases h with h | h
    · exact ⟨(rest_pos h).1, by have := (rest_pos h).2; omega⟩
    · have := tally_pos h; subst this; exact ⟨rfl, by rw [rank_bar]; omega⟩
  · rw [MayWait_zero]; iintro -; iempintro

end Cert.Exchange
-- ==== Proof.Progress.lean ====
/-
The progress of a device through the exchange: what is in hand after so many signals, copies and waits.
-/
module

public import proofs.«01_k».proof.Proof.Order

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_head bigSep_rangeSet_last)

variable {F : FTy → Type} [FloatOps F]

local notation "𝕄" => MT nD τ sig Unit (Elt F) ℕ UU ℕ

abbrev 𝒱₀ : Variants := Variants.none

variable (pk : Dev nD → S16x16x1152.Idx → Elt F .bf16) (K : Dev nD × Ck → ℕ)

/-! ## The shared records -/

/-- Every cell's invariant, and that every cell is at round 0. -/
def records : sProp 𝕄 :=
  iprop((bigSep Finset.univ fun ck : Dev nD × Ck => cellInv ER (Rd pk) (K ck) (kcell ck))
    ∗ (bigSep Finset.univ fun ck : Dev nD × Ck => reached ER (kcell ck) 0) ∗ levAts L lv)

instance records_persistent : BI.Persistent (records pk K) := by unfold records; infer_instance

omit [FloatOps F] in
theorem inv_at (ck : Dev nD × Ck) : records pk K ⊢ cellInv ER (Rd pk) (K ck) (kcell ck) := by
  unfold records; iintro ⟨H, -, -⟩
  iapply (show (bigSep Finset.univ fun ck : Dev nD × Ck => (cellInv ER (Rd pk) (K ck) (kcell ck) : sProp 𝕄)) ⊢ _ from bigSep_elim (Finset.mem_univ ck))
  iexact H
omit [FloatOps F] in
theorem reached_at (ck : Dev nD × Ck) : records pk K ⊢ reached ER (kcell ck) 0 := by
  unfold records; iintro ⟨-, H, -⟩
  iapply (show (bigSep Finset.univ fun ck : Dev nD × Ck => (reached ER (kcell ck) 0 : sProp 𝕄)) ⊢ _ from bigSep_elim (Finset.mem_univ ck))
  iexact H
omit [FloatOps F] in
theorem lev_at : records pk K ⊢ levAts L lv := by
  unfold records; iintro ⟨-, -, H⟩; iexact H

/-! ## Progress -/

/-- In hand while signalling: what each signal still to make hands over and its duty. -/
def holdA (c : Dev nD) (d : Fin 16) : sProp 𝕄 := iprop((∃ f, rcvPts c d f) ∗ dutyTok ER (crCell (d : Dev nD) c) 0 ())
def stA (c : Dev nD) (n : ℕ) : sProp 𝕄 :=
  iprop((bigSep (rangeSet 16 n 16) (holdA c)) ∗ ∃ W, owes (c : Thread nD τ) (OCr c n + ORv c 0) W)

/-- In hand while sending: for each copy still to make, the right to wait for its credit, its two duties, its slot. -/
def holdB (c : Dev nD) (d : Fin 16) : sProp 𝕄 :=
  iprop((cred (tallyAt (crCell c d) () 1) ∗ atPos ER (crCell c d) 0 ∅ 0)
    ∗ dutyTok ER (sdCell c d) 0 () ∗ dutyTok ER (rvCell (d : Dev nD) c) 0 () ∗ sndPts c d (pk c))
/-- and for each copy made, the right to wait for its leaving, and the closed credit cell. -/
def doneB (c : Dev nD) (d : Fin 16) : sProp 𝕄 := iprop(cred (tallyAt (sdCell c d) () N) ∗ semVal (crCell c d) 0)
def stB (c : Dev nD) (n : ℕ) : sProp 𝕄 :=
  iprop((bigSep (rangeSet 16 n 16) (holdB pk c)) ∗ (bigSep (rangeSet 16 0 n) (doneB (F := F) c)) ∗ ∃ W, owes (c : Thread nD τ) (ORv c n) W)
/-- The credit of copy `d` taken, the copy not made. -/
def stB' (c : Dev nD) (d : Fin 16) : sProp 𝕄 :=
  iprop((bigSep (rangeSet 16 (d.val + 1) 16) (holdB pk c)) ∗ (bigSep (rangeSet 16 0 d.val) (doneB (F := F) c))
    ∗ ((∃ f, rcvPts (d : Dev nD) c f) ∗ semVal (crCell c d) 0 ∗ dutyTok ER (sdCell c d) 0 () ∗ dutyTok ER (rvCell (d : Dev nD) c) 0 () ∗ sndPts c d (pk c))
    ∗ ∃ W, owes (c : Thread nD τ) (ORv c d.val) W)

def holdC (c : Dev nD) (s : Fin 16) : sProp 𝕄 := iprop(cred (tallyAt (rvCell c s) () N) ∗ atPos ER (rvCell c s) 0 ∅ 0)
def doneC (c : Dev nD) (s : Fin 16) : sProp 𝕄 := iprop(rcvPts c s (landed pk c) ∗ semVal (rvCell c s) 0)
def stC (c : Dev nD) (n : ℕ) : sProp 𝕄 :=
  iprop((bigSep (rangeSet 16 n 16) (holdC (F := F) c)) ∗ (bigSep (rangeSet 16 0 n) (doneC pk c)) ∗ ∃ W, owes (c : Thread nD τ) 0 W)

def holdD (c : Dev nD) (d : Fin 16) : sProp 𝕄 := iprop(cred (tallyAt (sdCell c d) () N) ∗ atPos ER (sdCell c d) 0 ∅ 0)
def doneD (c : Dev nD) (d : Fin 16) : sProp 𝕄 := iprop(sndPts c d (pk c) ∗ semVal (sdCell c d) 0)
def stD (c : Dev nD) (n : ℕ) : sProp 𝕄 :=
  iprop((bigSep (rangeSet 16 n 16) (holdD (F := F) c)) ∗ (bigSep (rangeSet 16 0 n) (doneD pk c)) ∗ ∃ W, owes (c : Thread nD τ) 0 W)

section Moves
variable {M : Type} [URA M] (Φ : Fin 16 → sProp M) (d : Fin 16)

/-- The next item of those to come. -/
theorem take_next : bigSep (rangeSet 16 d.val 16) Φ ⊢ iprop(Φ d ∗ bigSep (rangeSet 16 (d.val + 1) 16) Φ) :=
  Entails.of_eq (bigSep_rangeSet_head d.isLt d.isLt)
/-- It joins those done. -/
theorem put_done : iprop(Φ d ∗ bigSep (rangeSet 16 0 d.val) Φ) ⊢ bigSep (rangeSet 16 0 (d.val + 1)) Φ :=
  Entails.of_eq (bigSep_rangeSet_last (lo := 0) (hi := d.val + 1) (Nat.succ_pos _) (Nat.succ_le_of_lt d.isLt)).symm
end Moves

end Cert.Exchange
-- ==== Proof.Steps.lean ====
/-
One step of each kind of the exchange, each over the progress made so far: a credit signal, a credit wait, a copy, a
receive wait, a send wait.
-/
module

public import proofs.«01_k».proof.Proof.Progress

@[expose] public section

set_option maxRecDepth 16384

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet bigSep_rangeSet_head bigSep_rangeSet_last)

variable {F : FTy → Type} [FloatOps F]

local notation "𝕄" => MT nD τ sig Unit (Elt F) ℕ UU ℕ

variable (pk : Dev nD → S16x16x1152.Idx → Elt F .bf16) (K : Dev nD × Ck → ℕ)

/-! ## The steps -/

variable {α : Type}

/-- The signal of credit to device `d`. -/
theorem step_signal {Q : α → sProp 𝕄} {k : PUnit.{1} → Prog (TpuEff nD τ sig (Elt F) Λ₀ .tc) α} (c n : Dev nD) (d : Fin 16) (hn : n = (d : Dev nD)) (sm : Sem sig) (hsm : sm = crS c) (u : ℕ) (hu : u = 1) :
    iprop(records pk K ∗ stA (F := F) c d.val) ⊢ iprop((stA (F := F) c (d.val + 1) -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) sm u) k) Q) := by
  subst hn hsm hu
  unfold stA
  iintro ⟨#HR, Hh, ⟨%W, HO⟩⟩ Hk
  ihave Hh' := (take_next (holdA (F := F) c) n) $$ Hh
  icases Hh' with ⟨Hd, Hh⟩
  unfold holdA
  icases Hd with ⟨Hs, Ht⟩
  iapply (Rounds.wp_signal 𝒱₀ ER (Rd pk) (c : Thread nD τ) none (dst := (n : Thread nD τ)) (κ := K (n, some (0, c)))
      (r := 0) (d := ()) (by rw [duties_at pk n _ _ (kind_cr c)]; exact Finset.mem_singleton_self _) ((amount_at pk n _ _ (kind_cr c) ()).trans (show worth (some (0, c)) = 1 from rfl)) () (O₀ := OCr c n.val + ORv c 0)
      (OCr c (n.val + 1) + ORv c 0) (by rw [OCr_head c n]; exact add_right_comm _ _ _)) $$ [HO Ht Hs]
  · isplitr; · iapply (inv_at pk K (n, some (0, c))); iexact HR
    isplitl [HO]; · iexact HO
    isplitl [Ht]; · iexact Ht
    isplitl [Hs]
    · rw [payload_at pk n _ _ (kind_cr c)]; unfold pay
      isplitl [Hs]; · iexact Hs
      iapply (reached_at pk K (c, some (2, n))); iexact HR
    iapply (reached_at pk K (n, some (0, c))); iexact HR
  iintro HO
  iapply Hk
  isplitl [Hh]; · iexact Hh
  iexists W; iexact HO

/-- The wait for device `d`'s credit. -/
theorem step_credit {Q : α → sProp 𝕄} {k : PUnit.{1} → Prog (TpuEff nD τ sig (Elt F) Λ₀ .tc) α} (c : Dev nD) (d : Fin 16) (sm : Sem sig) (hsm : sm = crS d) (u : ℕ) (hu : u = 1) :
    iprop(records pk K ∗ stB pk c d.val) ⊢ iprop((stB' pk c d -∗ wp frame (wpE (defs₀ (F := F)) 𝒱₀ (c : Thread nD τ) none) Set.univ (k ⟨⟩) Q)
      -∗ wp frame (wpE (defs₀ (F := F)) 𝒱₀ (c : Thread nD τ) none) Set.univ (.op (.semWait sm u) k) Q) := by
  subst hsm hu
  unfold stB stB'
  iintro ⟨#HR, Hh, Hdone, ⟨%W, HO⟩⟩ Hk
  ihave Hh' := (take_next (holdB pk c) d) $$ Hh
  icases Hh' with ⟨Hd, Hh⟩
  ihave Hd := (show holdB pk c d ⊢ iprop((cred (tallyAt (crCell c d) () 1) ∗ atPos ER (crCell c d) 0 ∅ 0)
    ∗ dutyTok ER (sdCell c d) 0 () ∗ dutyTok ER (rvCell (d : Dev nD) c) 0 () ∗ sndPts c d (pk c)) from BI.Entails.refl _) $$ Hd
  icases Hd with ⟨⟨Hc, Hat⟩, Hrest⟩
  iapply (Rounds.wp_wait_rest_token 𝒱₀ ER (Rd pk) (c : Thread nD τ) none (κ := K (c, some (0, d)))
      (wpE_semWait_eq 𝒱₀ (c : Thread nD τ) none Set.univ) (Set.mem_univ _) () (O := ORv c d.val) (W := W) (R := 0) (m := 0) (T := ∅)
      (by rw [Nat.zero_add, expect_at pk c _ _ (kind_cr d)]; rfl)) $$ [Hc HO Hat]
  · isplitr; · iapply (inv_at pk K (c, some (0, d))); iexact HR
    isplitl [Hc]; · iexact Hc
    isplitl [HO]; · iexact HO
    isplitr; · iapply (mayWait_cr c d d.val); iapply (lev_at pk K); iexact HR
    iexact Hat
  iintro ⟨HO, Hat, -, Hpay⟩
  ihave Hp := (Entails.of_eq (rest_at pk c _ _ (kind_cr d))) $$ Hpay
  unfold pay
  icases Hp with ⟨Hs, -⟩
  imod (Rounds.cell_close ER (Rd pk) (Set.mem_univ (K (c, some (0, d)))) (fun h => h) (R := 0 + 1) (duties_later pk (crCell c d))) $$ [Hat] with Hz
  · isplitr; · iapply (inv_at pk K (c, some (0, d))); iexact HR
    iexact Hat
  iapply Hk
  isplitl [Hh]; · iexact Hh
  isplitl [Hdone]; · iexact Hdone
  isplitl [Hs Hz Hrest]
  · isplitl [Hs]; · iexact Hs
    isplitl [Hz]; · iexact Hz
    iexact Hrest
  iexists _; iexact HO

/-- The copy of slot `d` to device `d`. -/
theorem step_send {Q : α → sProp 𝕄} {k : PUnit.{1} → Prog (TpuEff nD τ sig (Elt F) Λ₀ .tc) α} (c n : Dev nD) (d : Fin 16) (hn : n = (d : Dev nD)) (ss rs : DmaSem sig) (hss : ss = sdS d) (hrs : rs = rvS c)
    (off : Fin 3 → ℕ) (inb) (hoff : off = ![c.val, 0, 0])
    {hsc : (slotM rcvM off inb : Memref sig (Dev.tc n : Thread nD τ).2.kind .vmem S16x1152 .bf16).view.ref.isScScratch = false}
    {hsrc : (sndSlot d).view.WordExact} {hdst : (slotM rcvM off inb : Memref sig .tc .vmem S16x1152 .bf16).view.WordExact}
    {hsem : DmaTarget.Typed .vmem (.dma rs) (.remote (Dev.tc n : Thread nD τ) (slotM rcvM off inb : Memref sig .tc .vmem S16x1152 .bf16) (.dma ss) hsc)} :
    iprop(records pk K ∗ stB' pk c d) ⊢ iprop((stB pk c (d.val + 1) -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (sndSlot d) (.remote (Dev.tc n : Thread nD τ) (slotM rcvM off inb) (.dma ss) hsc) (.dma rs) hsrc hdst hsem) k) Q) := by
  subst hn hss hrs hoff
  unfold stB stB'
  iintro ⟨#HR, Hh, Hdone, ⟨⟨%fd, Hs⟩, Hz, Ht1, Ht2, Hsrc⟩, ⟨%W, HO⟩⟩ Hk
  iapply (Rounds.wp_send_pointsTo 𝒱₀ ER (Rd pk) (c : Thread nD τ) none (κ₁ := K (c, some (1, n))) (κ₂ := K (n, some (2, c)))
    (r₁ := 0) (r₂ := 0) (d₁ := ()) (d₂ := ()) (fd := fd) (fs := pk c) (q := fullShare)
    (by rw [duties_at pk c _ _ (kind_sd n)]; exact Finset.mem_singleton_self _)
    (by rw [duties_at pk n _ _ (kind_rv c)]; exact Finset.mem_singleton_self _)
    () () N (show (rcvSlot c).view.amount (.dma (rvS c)) = N from credit_rcv c) (amount_at pk c _ _ (kind_sd n) ()) (amount_at pk n _ _ (kind_rv c) ()) (ORv c (n.val + 1)) (ORv_head c n) (W := W)
    (by rw [payload_at pk c _ _ (kind_sd n)]; exact BI.Entails.refl _)
    (by rw [payload_at pk n _ _ (kind_rv c)]; exact Entails.of_eq (pointsTo_congr (landed_write pk c n fd)))) $$ [Hs HO Ht1 Ht2 Hsrc]
  · isplitr; · iapply (inv_at pk K (c, some (1, n))); iexact HR
    isplitr; · iapply (inv_at pk K (n, some (2, c))); iexact HR
    isplitl [Hsrc]; · iexact Hsrc
    isplitl [Hs]; · iexact Hs
    isplitl [HO]; · iexact HO
    isplitl [Ht1]; · iexact Ht1
    isplitr; · iapply (reached_at pk K (c, some (1, n))); iexact HR
    isplitl [Ht2]; · iexact Ht2
    iapply (reached_at pk K (n, some (2, c))); iexact HR
  iintro ⟨Hc, HO⟩
  iapply Hk
  isplitl [Hh]; · iexact Hh
  isplitl [Hdone Hc Hz]
  · iapply (put_done (doneB (F := F) c) n)
    isplitl [Hc Hz]
    · unfold doneB; isplitl [Hc]; · iexact Hc
      iexact Hz
    iexact Hdone
  iexists W; iexact HO

/-- The wait for device `s`'s copy to land. -/
theorem step_recv {Q : α → sProp 𝕄} {k : PUnit.{1} → Prog (TpuEff nD τ sig (Elt F) Λ₀ .tc) α} (c : Dev nD) (s : Fin 16) (sm : DmaSem sig) (hsm : sm = rvS s)
    {src : Memref sig .tc .vmem S16x1152 .bf16} {hS : src.view.WordExact} {hD : (rcvSlot s).view.WordExact} :
    iprop(records pk K ∗ stC pk c s.val) ⊢ iprop((stC pk c (s.val + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src (rcvSlot s) hS hD) k) Q) := by
  subst hsm
  unfold stC
  iintro ⟨#HR, Hh, Hdone, ⟨%W, HO⟩⟩ Hk
  ihave Hh' := (take_next (holdC (F := F) c) s) $$ Hh
  icases Hh' with ⟨Hd, Hh⟩
  ihave Hd := (show holdC (F := F) c s ⊢ iprop(cred (tallyAt (rvCell c s) () N) ∗ atPos ER (rvCell c s) 0 ∅ 0) from BI.Entails.refl _) $$ Hd
  icases Hd with ⟨Hc, Hat⟩
  iapply (Rounds.wp_wait_rest_token 𝒱₀ ER (Rd pk) (c : Thread nD τ) none (κ := K (c, some (2, s)))
      (wpE_waitDma2_eq 𝒱₀ (c : Thread nD τ) none Set.univ) (Set.mem_univ _) () (O := 0) (W := W) (R := 0) (m := 0) (T := ∅)
      (by rw [Nat.zero_add, expect_at pk c _ _ (kind_rv s)]; rfl)) $$ [Hc HO Hat]
  · isplitr; · iapply (inv_at pk K (c, some (2, s))); iexact HR
    isplitl [Hc]; · iexact Hc
    isplitl [HO]; · iexact HO
    isplitr; · rw [MayWait_zero]; iempintro
    iexact Hat
  iintro ⟨HO, Hat, -, Hpay⟩
  ihave Hp := (Entails.of_eq (rest_at pk c _ _ (kind_rv s))) $$ Hpay
  unfold pay
  imod (Rounds.cell_close ER (Rd pk) (Set.mem_univ (K (c, some (2, s)))) (fun h => h) (R := 0 + 1) (duties_later pk (rvCell c s))) $$ [Hat] with Hz
  · isplitr; · iapply (inv_at pk K (c, some (2, s))); iexact HR
    iexact Hat
  iapply Hk
  isplitl [Hh]; · iexact Hh
  isplitl [Hdone Hp Hz]
  · iapply (put_done (doneC pk c) s)
    isplitl [Hp Hz]
    · unfold doneC; isplitl [Hp]; · iexact Hp
      iexact Hz
    iexact Hdone
  iexists _; iexact HO

/-- The wait for the own copy to device `d` to have left. -/
theorem step_left {Q : α → sProp 𝕄} {k : PUnit.{1} → Prog (TpuEff nD τ sig (Elt F) Λ₀ .tc) α} (c : Dev nD) (d : Fin 16) (sm : DmaSem sig) (hsm : sm = sdS d)
    {src : Memref sig .tc .vmem S16x1152 .bf16} {hS : src.view.WordExact} {hD : (sndSlot d).view.WordExact} :
    iprop(records pk K ∗ stD pk c d.val) ⊢ iprop((stD pk c (d.val + 1) -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sm src (sndSlot d) hS hD) k) Q) := by
  subst hsm
  unfold stD
  iintro ⟨#HR, Hh, Hdone, ⟨%W, HO⟩⟩ Hk
  ihave Hh' := (take_next (holdD (F := F) c) d) $$ Hh
  icases Hh' with ⟨Hd, Hh⟩
  ihave Hd := (show holdD (F := F) c d ⊢ iprop(cred (tallyAt (sdCell c d) () N) ∗ atPos ER (sdCell c d) 0 ∅ 0) from BI.Entails.refl _) $$ Hd
  icases Hd with ⟨Hc, Hat⟩
  iapply (Rounds.wp_wait_rest_token 𝒱₀ ER (Rd pk) (c : Thread nD τ) none (κ := K (c, some (1, d)))
      (wpE_waitDma2_eq 𝒱₀ (c : Thread nD τ) none Set.univ) (Set.mem_univ _) () (O := 0) (W := W) (R := 0) (m := 0) (T := ∅)
      (by rw [Nat.zero_add, expect_at pk c _ _ (kind_sd d)]; rfl)) $$ [Hc HO Hat]
  · isplitr; · iapply (inv_at pk K (c, some (1, d))); iexact HR
    isplitl [Hc]; · iexact Hc
    isplitl [HO]; · iexact HO
    isplitr; · rw [MayWait_zero]; iempintro
    iexact Hat
  iintro ⟨HO, Hat, -, Hpay⟩
  ihave Hp := (Entails.of_eq (rest_at pk c _ _ (kind_sd d))) $$ Hpay
  unfold pay
  imod (Rounds.cell_close ER (Rd pk) (Set.mem_univ (K (c, some (1, d)))) (fun h => h) (R := 0 + 1) (duties_later pk (sdCell c d))) $$ [Hat] with Hz
  · isplitr; · iapply (inv_at pk K (c, some (1, d))); iexact HR
    iexact Hat
  iapply Hk
  isplitl [Hh]; · iexact Hh
  isplitl [Hdone Hp Hz]
  · iapply (put_done (doneD pk c) d)
    isplitl [Hp Hz]
    · unfold doneD; isplitl [Hp]; · iexact Hp
      iexact Hz
    iexact Hdone
  iexists _; iexact HO

end Cert.Exchange
-- ==== Proof.BodySignal.lean ====
/-
The body's first stretch: the barrier with itself, the sixteen credit signals, the first loads.
-/
module

public import proofs.«01_k».proof.Proof.Steps

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

/-! ## The buffers -/

abbrev xM : Memref sig .tc .vmem S1024x512 .bf16 := Memref.whole cc0_stg0_0
abbrev rwM : Memref sig .tc .vmem S512x64 .bf16 := Memref.whole cc0_stg1_0
abbrev ixM : Memref sig .tc .vmem S1024x1 .i32 := Memref.whole cc0_stg2_0
abbrev ewM : Memref sig .tc .vmem S4x512x1024 .bf16 := Memref.whole cc0_stg3_0
abbrev swM : Memref sig .tc .vmem S512x1024 .bf16 := Memref.whole cc0_stg4_0
abbrev outM : Memref sig .tc .vmem S64x1024 .f32 := Memref.whole cc0_stg5_0
abbrev yM : Memref sig .tc .vmem S128x1152 .bf16 := Memref.whole cc0_scratch2

/-- A buffer of device `c` held whole at contents `f`. -/
abbrev held (c : Dev nD) (b : Ref sig .tc) (f : b.ty.Contents (Elt F)) : sProp 𝕄 := ((c : Thread nD τ).loc b) ↦{fullShare} (f : Buf (Elt F) ((c : Thread nD τ).loc b))

/-- A piece of the body applied to the kernel's buffers and semaphores. -/
abbrev onBufs {β : Sort*} (p : (arg0 : Memref sig .tc .vmem S1024x512 .bf16) → arg0.IsWhole → (arg1 : Memref sig .tc .vmem S512x64 .bf16) → arg1.IsWhole →
    (arg2 : Memref sig .tc .vmem S1024x1 .i32) → arg2.IsWhole → (arg3 : Memref sig .tc .vmem S4x512x1024 .bf16) → arg3.IsWhole →
    (arg4 : Memref sig .tc .vmem S512x1024 .bf16) → arg4.IsWhole → (arg5 : Memref sig .tc .vmem S64x1024 .f32) → arg5.IsWhole →
    (arg6 : Memref sig .tc .vmem S16x16x1152 .bf16) → arg6.IsWhole → (arg7 : Memref sig .tc .vmem S16x16x1152 .bf16) → arg7.IsWhole →
    (arg8 : Memref sig .tc .vmem S128x1152 .bf16) → arg8.IsWhole → DmaSems sig S16 → DmaSems sig S16 → Sems sig S16 → β) : β :=
  p xM (Memref.isWhole_whole _) rwM (Memref.isWhole_whole _) ixM (Memref.isWhole_whole _) ewM (Memref.isWhole_whole _) swM (Memref.isWhole_whole _)
    outM (Memref.isWhole_whole _) sndM (Memref.isWhole_whole _) rcvM (Memref.isWhole_whole _) yM (Memref.isWhole_whole _) cc0_scratch3 cc0_scratch4 cc0_scratch5

/-- The device's number, as the body computes it. -/
abbrev devW (c : Dev nD) : BitVec 32 := Scalar.remsi (Scalar.divsi (Dev.word c) 1#32) 16#32

theorem hz2 : (![0, 0] : Fin 2 → Nat) = fun _ => 0 := funext fun a => by fin_cases a <;> rfl
theorem hz3 : (![0, 0, 0] : Fin 3 → Nat) = fun _ => 0 := funext fun a => by fin_cases a <;> rfl

variable (pk : Dev nD → S16x16x1152.Idx → Elt F .bf16) (K : Dev nD × Ck → ℕ)

/-- The credit semaphore the body names by its own number. -/
theorem credit_own (c : Dev nD) : semAt cc0_scratch5 (k0_off1 c) (k0_off1_inb c) = crS c := by
  have key : ∀ (off : Fin 1 → ℕ) (inb), off = ![c.val] → semAt cc0_scratch5 off inb = crS c := by
    intro off inb h; subst h; rfl
  exact key _ _ (k0_off1_eq c)
/-- The receive semaphore likewise. -/
theorem recv_own (c : Dev nD) : semAt cc0_scratch4 (k0_off1 c) (k0_off1_inb c) = rvS c := by
  have key : ∀ (off : Fin 1 → ℕ) (inb), off = ![c.val] → semAt cc0_scratch4 off inb = rvS c := by
    intro off inb h; subst h; rfl
  exact key _ _ (k0_off1_eq c)

/-! ## The barrier -/

def barSt (c : Dev nD) : sProp 𝕄 :=
  iprop(dutyTok ER (barCell c) 0 () ∗ cred (tallyAt (barCell c) () 1) ∗ atPos ER (barCell c) 0 ∅ 0 ∗ ∃ W, owes (c : Thread nD τ) (O₀ c) W)

/-- What the signals start from: the landing buffer by slots and the credit duties. -/
def preA (c : Dev nD) : sProp 𝕄 := bigSep Finset.univ (holdA (F := F) c)

omit [FloatOps F] in
theorem preA_of (c : Dev nD) : iprop((∃ f, held (F := F) c cc0_scratch1 f) ∗ bigSep Finset.univ fun d : Fin 16 => dutyTok ER (crCell (d : Dev nD) c) 0 ())
    ⊢ preA (F := F) c := by
  unfold preA holdA
  rw [bigSep_sep']
  iintro ⟨⟨%f, H⟩, Ht⟩
  isplitl [H]
  · ihave H' := (Entails.of_eq (rcv_slots (F := F) c f)) $$ H
    iapply (show (bigSep Finset.univ fun k => rcvPts (F := F) c k f) ⊢ bigSep Finset.univ fun k => iprop(∃ f, rcvPts (F := F) c k f) from
      bigSep_mono fun k _ => show rcvPts (F := F) c k f ⊢ iprop(∃ f, rcvPts (F := F) c k f) from by iintro H; iexists f; iexact H)
    iexact H'
  iexact Ht

set_option maxHeartbeats 1600000 in
theorem part1_spec (c : Dev nD) (Kt : (Σ' (_ : Dev nD), BitVec 32) → sProp 𝕄) :
    iprop(records pk K ∗ barSt (F := F) c ∗ preA (F := F) c ∗ ((stA (F := F) c 4 ∗ semVal (barCell c) 0) -∗ Kt ⟨c, devW c⟩))
      ⊢ wp frame (wpE (defs₀ (F := F)) 𝒱₀ c none) Set.univ (onBufs k0_part1) Kt := by
  unfold onBufs
  simp only [k0_part1_eq_skeleton]; unfold k0_part1_skel
  simp only [semSignalWord, semWaitWord, Prog.lift, Prog.bind_op, Prog.bind_ret, Prog.pure_eq_ret, wp_deviceId]
  unfold barSt preA
  iintro ⟨#HR, ⟨Ht, Hc, Hat, ⟨%W, HO⟩⟩, HA, Hk⟩
  simp only [show (⟨k0_dev1 c, k0_dev1_lt c⟩ : Dev nD) = c from Fin.ext (k0_dev1_eq c)]
  iapply (Rounds.wp_signal 𝒱₀ ER (Rd pk) (c : Thread nD τ) none (dst := (c : Thread nD τ)) (κ := K (c, none))
      (r := 0) (d := ()) (by rw [duties_at pk c _ _ kind_bar]; exact Finset.mem_singleton_self _) ((amount_at pk c _ _ kind_bar ()).trans (by decide)) ()
      (OCr c 0 + ORv c 0) rfl) $$ [HO Ht]
  · isplitr; · iapply (inv_at pk K (c, none)); iexact HR
    isplitl [HO]; · iexact HO
    isplitl [Ht]; · iexact Ht
    isplitr; · rw [payload_at pk c _ _ kind_bar]; unfold pay; iempintro
    iapply (reached_at pk K (c, none)); iexact HR
  iintro HO
  iapply (Rounds.wp_wait_rest_token 𝒱₀ ER (Rd pk) (c : Thread nD τ) none (κ := K (c, none))
      (wpE_semWait_eq 𝒱₀ (c : Thread nD τ) none Set.univ) (Set.mem_univ _) () (O := OCr c 0 + ORv c 0) (W := W) (R := 0) (m := 0) (T := ∅)
      (by rw [Nat.zero_add, expect_at pk c _ _ kind_bar]; decide)) $$ [Hc HO Hat]
  · isplitr; · iapply (inv_at pk K (c, none)); iexact HR
    isplitl [Hc]; · iexact Hc
    isplitl [HO]; · iexact HO
    isplitr; · iapply (mayWait_bar c); iapply (lev_at pk K); iexact HR
    iexact Hat
  iintro ⟨HO, Hat, -, -⟩
  imod (Rounds.cell_close ER (Rd pk) (Set.mem_univ (K (c, none))) (fun h => h) (R := 0 + 1) (duties_later pk (barCell c))) $$ [Hat] with Hz
  · isplitr; · iapply (inv_at pk K (c, none)); iexact HR
    iexact Hat
  ihave HS := (show iprop((bigSep Finset.univ (holdA (F := F) c)) ∗ owes (c : Thread nD τ) (OCr c 0 + ORv c 0) (insert (SemLoc.reg barS, ()) W)) ⊢ stA (F := F) c 0 from by
    unfold stA; rw [rangeSet_univ]; iintro ⟨H, HO⟩; isplitl [H]; · iexact H
    iexists _; iexact HO) $$ [HA HO]
  · isplitl [HA]; · iexact HA
    iexact HO
  iapply (step_signal pk K c _ 0 (Fin.ext k0_dev2_eq) _ (credit_own c) _ (by decide)) $$ [HS]
  · isplitr; · iexact HR
    iexact HS
  iintro HS
  iapply (step_signal pk K c _ 1 (Fin.ext k0_dev3_eq) _ (credit_own c) _ (by decide)) $$ [HS]
  · isplitr; · iexact HR
    iexact HS
  iintro HS
  iapply (step_signal pk K c _ 2 (Fin.ext k0_dev4_eq) _ (credit_own c) _ (by decide)) $$ [HS]
  · isplitr; · iexact HR
    iexact HS
  iintro HS
  iapply (step_signal pk K c _ 3 (Fin.ext k0_dev5_eq) _ (credit_own c) _ (by decide)) $$ [HS]
  · isplitr; · iexact HR
    iexact HS
  iintro HS
  rw [wp_ret]; imodintro
  iapply Hk
  isplitl [HS]; · iexact HS
  iexact Hz

omit [FloatOps F] in
/-- All signals made, only the copies are owed. -/
theorem stA_end (c : Dev nD) : stA (F := F) c 16 ⊢ iprop(∃ W, owes (c : Thread nD τ) (ORv c 0) W) := by
  unfold stA
  rw [OCr_end, zero_add]
  iintro ⟨-, H⟩; iexact H

set_option maxHeartbeats 1600000 in
theorem part2_spec (c : Dev nD) (Kt : (Σ' (_ : BitVec 32), BitVec 32) → sProp 𝕄) :
    iprop(records pk K ∗ stA (F := F) c 4 ∗ (stA (F := F) c 11 -∗ Kt ⟨11#32, 1#32⟩))
      ⊢ wp frame (wpE (defs₀ (F := F)) 𝒱₀ c none) Set.univ (onBufs k0_part2 c) Kt := by
  unfold onBufs
  simp only [k0_part2_eq_skeleton]; unfold k0_part2_skel
  simp only [semSignalWord, semWaitWord, Prog.lift, Prog.bind_op, Prog.bind_ret, Prog.pure_eq_ret]
  iintro ⟨#HR, HS, Hk⟩
  iapply (step_signal pk K c _ 4 (Fin.ext k0_dev6_eq) _ (credit_own c) _ (by decide)) $$ [HS]
  · isplitr; · iexact HR
    iexact HS
  iintro HS
  iapply (step_signal pk K c _ 5 (Fin.ext k0_dev7_eq) _ (credit_own c) _ (by decide)) $$ [HS]
  · isplitr; · iexact HR
    iexact HS
  iintro HS
  iapply (step_signal pk K c _ 6 (Fin.ext k0_dev8_eq) _ (credit_own c) _ (by decide)) $$ [HS]
  · isplitr; · iexact HR
    iexact HS
  iintro HS
  iapply (step_signal pk K c _ 7 (Fin.ext k0_dev9_eq) _ (credit_own c) _ (by decide)) $$ [HS]
  · isplitr; · iexact HR
    iexact HS
  iintro HS
  iapply (step_signal pk K c _ 8 (Fin.ext k0_dev10_eq) _ (credit_own c) _ (by decide)) $$ [HS]
  · isplitr; · iexact HR
    iexact HS
  iintro HS
  iapply (step_signal pk K c _ 9 (Fin.ext k0_dev11_eq) _ (credit_own c) _ (by decide)) $$ [HS]
  · isplitr; · iexact HR
    iexact HS
  iintro HS
  iapply (step_signal pk K c _ 10 (Fin.ext k0_dev12_eq) _ (credit_own c) _ (by decide)) $$ [HS]
  · isplitr; · iexact HR
    iexact HS
  iintro HS
  rw [wp_ret]; imodintro
  iapply Hk
  iexact HS

/-! ## The whole loads -/

omit [FloatOps F] in
theorem read_x (f : (cc0_stg0_0 : Ref sig .tc).ty.Contents (Elt F)) :
    xM.view.readAt (Elt F) (Rect.unit (s := S1024x512) ![0, 0] S1024x512.size inb_S1024x512_S1024x512_0_0).toLoadRect f = f :=
  Memref.readAt_unit_zero (Elt F) cc0_stg0_0 hz2 _ f
omit [FloatOps F] in
theorem read_rw (f : (cc0_stg1_0 : Ref sig .tc).ty.Contents (Elt F)) :
    rwM.view.readAt (Elt F) (Rect.unit (s := S512x64) ![0, 0] S512x64.size inb_S512x64_S512x64_0_0).toLoadRect f = f :=
  Memref.readAt_unit_zero (Elt F) cc0_stg1_0 hz2 _ f
omit [FloatOps F] in
theorem read_ix (f : (cc0_stg2_0 : Ref sig .tc).ty.Contents (Elt F)) :
    ixM.view.readAt (Elt F) (Rect.unit (s := S1024x1) ![0, 0] S1024x1.size inb_S1024x1_S1024x1_0_0).toLoadRect f = f :=
  Memref.readAt_unit_zero (Elt F) cc0_stg2_0 hz2 _ f
omit [FloatOps F] in
theorem read_sw (f : (cc0_stg4_0 : Ref sig .tc).ty.Contents (Elt F)) :
    swM.view.readAt (Elt F) (Rect.unit (s := S512x1024) ![0, 0] S512x1024.size inb_S512x1024_S512x1024_0_0).toLoadRect f = f :=
  Memref.readAt_unit_zero (Elt F) cc0_stg4_0 hz2 _ f
omit [FloatOps F] in
theorem read_y (f : (cc0_scratch2 : Ref sig .tc).ty.Contents (Elt F)) :
    yM.view.readAt (Elt F) (Rect.unit (s := S128x1152) ![0, 0] S128x1152.size inb_S128x1152_S128x1152_0_0).toLoadRect f = f :=
  Memref.readAt_unit_zero (Elt F) cc0_scratch2 hz2 _ f
omit [FloatOps F] in
theorem read_rcv (f : (cc0_scratch1 : Ref sig .tc).ty.Contents (Elt F)) :
    rcvM.view.readAt (Elt F) (Rect.unit (s := S16x16x1152) ![0, 0, 0] S16x16x1152.size inb_S16x16x1152_S16x16x1152_0_0_0).toLoadRect f = f :=
  Memref.readAt_unit_zero (Elt F) cc0_scratch1 hz3 _ f
omit [FloatOps F] in
theorem write_out (f w : (cc0_stg5_0 : Ref sig .tc).ty.Contents (Elt F)) :
    ((outM.access (Rect.unit (s := S64x1024) ![0, 0] S64x1024.size inb_S64x1024_S64x1024_0_0)) : View sig .tc _ _ _).write (Elt F) f w Finset.univ = w :=
  Memref.write_access_unit_zero_univ (Elt F) cc0_stg5_0 hz2 _ f w
omit [FloatOps F] in
theorem write_snd (f w : (cc0_scratch0 : Ref sig .tc).ty.Contents (Elt F)) :
    ((sndM.access (Rect.unit (s := S16x16x1152) ![0, 0, 0] S16x16x1152.size inb_S16x16x1152_S16x16x1152_0_0_0)) : View sig .tc _ _ _).write (Elt F) f w Finset.univ = w :=
  Memref.write_access_unit_zero_univ (Elt F) cc0_scratch0 hz3 _ f w

set_option maxHeartbeats 1600000 in
theorem part3_spec (c : Dev nD) (a b : BitVec 32) (f0 : (cc0_stg0_0 : Ref sig .tc).ty.Contents (Elt F)) (f1 : (cc0_stg1_0 : Ref sig .tc).ty.Contents (Elt F))
    (Kt : (Σ' (_ : FVec F S1024x512 .bf16) (_ : FVec F S1024x64 .f32), FVec F S1024x64 .f32) → sProp 𝕄) :
    iprop(records pk K ∗ stA (F := F) c 11 ∗ held c cc0_stg0_0 f0 ∗ held c cc0_stg1_0 f1
        ∗ (((∃ W, owes (c : Thread nD τ) (ORv c 0) W) ∗ held c cc0_stg0_0 f0 ∗ held c cc0_stg1_0 f1) -∗ Kt ⟨k0_pay1 f0, k0_pay2 f0 f1, k0_pay3 f0 f1⟩))
      ⊢ wp frame (wpE (defs₀ (F := F)) 𝒱₀ c none) Set.univ (onBufs k0_part3 c a b) Kt := by
  unfold onBufs
  simp only [k0_part3_eq_skeleton]; unfold k0_part3_skel
  simp only [semSignalWord, semWaitWord, Prog.lift, Prog.bind_op, Prog.bind_ret, Prog.pure_eq_ret]
  iintro ⟨#HR, HS, Hx, Hw, Hk⟩
  iapply (step_signal pk K c _ 11 (Fin.ext k0_dev13_eq) _ (credit_own c) _ (by decide)) $$ [HS]
  · isplitr; · iexact HR
    iexact HS
  iintro HS
  iapply (step_signal pk K c _ 12 (Fin.ext k0_dev14_eq) _ (credit_own c) _ (by decide)) $$ [HS]
  · isplitr; · iexact HR
    iexact HS
  iintro HS
  iapply (step_signal pk K c _ 13 (Fin.ext k0_dev15_eq) _ (credit_own c) _ (by decide)) $$ [HS]
  · isplitr; · iexact HR
    iexact HS
  iintro HS
  iapply (step_signal pk K c _ 14 (Fin.ext k0_dev16_eq) _ (credit_own c) _ (by decide)) $$ [HS]
  · isplitr; · iexact HR
    iexact HS
  iintro HS
  iapply (step_signal pk K c _ 15 (Fin.ext k0_dev17_eq) _ (credit_own c) _ (by decide)) $$ [HS]
  · isplitr; · iexact HR
    iexact HS
  iintro HS
  iapply (wp_load 𝒱₀ (c : Thread nD τ) none Set.univ (m := xM) (Finset.subset_univ _)) $$ Hx; iintro Hx
  rw [read_x]
  iapply (wp_load 𝒱₀ (c : Thread nD τ) none Set.univ (m := rwM) (Finset.subset_univ _)) $$ Hw; iintro Hw
  rw [read_rw]
  rw [wp_ret]; imodintro
  iapply Hk
  isplitl [HS]; · iapply (stA_end (F := F) c); iexact HS
  isplitl [Hx]; · iexact Hx
  iexact Hw

set_option maxHeartbeats 1600000 in
theorem part4_spec (c : Dev nD) (v2 : BitVec 32) (v79 v82 : FVec F S1024x64 .f32) (f2 : (cc0_stg2_0 : Ref sig .tc).ty.Contents (Elt F))
    (Kt : (Σ' (_ : FVec F S1024x64 .f32) (_ : IVec S1024x1 32) (_ : BitVec 32) (_ : BitVec 32) (_ : IVec S1024x64 32), FVec F S1024x1 .f32) → sProp 𝕄) :
    iprop(held c cc0_stg2_0 f2 ∗ (held c cc0_stg2_0 f2 -∗ Kt ⟨k0_pay4 v79 v82, k0_pay5 f2, Scalar.muli v2 4#32, Scalar.addi (Scalar.muli v2 4#32) 4#32,
          iota .tc S1024x64 32 [1] iota_S1024x64_d1_w32, k0_pay6 v2 v79 v82 f2⟩))
      ⊢ wp frame (wpE (defs₀ (F := F)) 𝒱₀ c none) Set.univ (onBufs k0_part4 v2 v79 v82) Kt := by
  unfold onBufs
  simp only [k0_part4_eq_skeleton]; unfold k0_part4_skel
  simp only [Prog.lift, Prog.bind_op, Prog.bind_ret, Prog.pure_eq_ret]
  iintro ⟨Hx, Hk⟩
  iapply (wp_load 𝒱₀ (c : Thread nD τ) none Set.univ (m := ixM) (Finset.subset_univ _)) $$ Hx; iintro Hx
  rw [read_ix]
  rw [wp_ret]; imodintro
  iapply Hk
  iexact Hx

end Cert.Exchange
-- ==== Proof.Values.lean ====
/-
What the body computes on one device, value by value, from the blocks the device is given.
-/
module

public import proofs.«01_k».proof.Proof.BodySignal
public import Idealize.ShloMosaic.Lib.Pointwise.Index

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

/-- The blocks one device is given: its copy of the tokens, the router's weights, the routes, its own experts, the shared weights. -/
structure Blocks (F : FTy → Type) where
  x : (cc0_stg0_0 : Ref sig .tc).ty.Contents (Elt F)
  rw : (cc0_stg1_0 : Ref sig .tc).ty.Contents (Elt F)
  ix : (cc0_stg2_0 : Ref sig .tc).ty.Contents (Elt F)
  ew : (cc0_stg3_0 : Ref sig .tc).ty.Contents (Elt F)
  sw : (cc0_stg4_0 : Ref sig .tc).ty.Contents (Elt F)

variable (c : Dev nD) (I : Blocks F)

/-- The first expert the device owns, and the first it does not. -/
def eLo : BitVec 32 := Scalar.muli (devW c) 4#32
def eHi : BitVec 32 := Scalar.addi (Scalar.muli (devW c) 4#32) 4#32

/-- The router: the shifted scores' exponentials, their sums spread over the row, the probabilities. -/
def expo : FVec F S1024x64 .f32 := k0_pay2 I.x I.rw
def esum : FVec F S1024x64 .f32 := k0_pay3 I.x I.rw
def prob : FVec F S1024x64 .f32 := k0_pay4 (expo I) (esum I)
def route : IVec S1024x1 32 := k0_pay5 I.ix
def lane : IVec S1024x64 32 := iota .tc S1024x64 32 [1] iota_S1024x64_d1_w32
/-- The gate of each token this device serves, after three of its experts and after all four. -/
def gate3 : FVec F S1024x1 .f32 := k0_pay6 (devW c) (expo I) (esum I) I.ix
def gateV : FVec F S1024x1 .f32 := k0_pay7 (prob I) (route I) (eLo c) lane (gate3 c I)
def tokCol : IVec S1024x1 32 := iota .tc S1024x1 32 [0] iota_S1024x1_d0_w32
def tokRow : IVec S1x1024 32 := iota .tc S1x1024 32 [1] iota_S1x1024_d1_w32
/-- Which tokens this device serves, as a mask and as numbers. -/
def mineV : IVec S1024x1 1 := k0_pay8 (route I) (eLo c) (eHi c)
def mineF : FVec F S1024x1 .bf16 := k0_pay10 (route I) (eLo c) (eHi c)
def lowerV : FVec F S128x128 .bf16 := k0_pay9
/-- The running counts of the first chunks. -/
def pos0 : FVec F S128x1 .f32 := k0_pay13 (route I) (eLo c) (eHi c)
def pos1 : FVec F S128x1 .f32 := k0_pay16 (route I) (eLo c) (eHi c)
def pos2 : FVec F S128x1 .f32 := k0_pay19 (route I) (eLo c) (eHi c)
def off3 : FVec F S1x1 .f32 := k0_pay20 (route I) (eLo c) (eHi c)
def cnt3 : FVec F S128x1 .f32 := k0_pay21 (route I) (eLo c) (eHi c)
/-- Which of the device's rows each token takes. -/
def pickV : FVec F S1024x128 .f32 :=
  k0_pay22 (mineV c I) lowerV (mineF c I) (pos0 c I) (pos1 c I) (pos2 c I) (off3 c I) (cnt3 c I)
/-- The tokens of the rows. -/
def rowsX : FVec F S128x512 .f32 :=
  k0_pay23 (k0_pay1 I.x) (mineV c I) lowerV (mineF c I) (pos0 c I) (pos1 c I) (pos2 c I) (off3 c I) (cnt3 c I)
def sel64 : BitVec 32 := Scalar.select (Scalar.cmpi .eq 64#32 0#32) 1#32 64#32
/-- Each row's place in its home block, its gate, its expert, its home block, whether it is taken. -/
def rowPlace : FVec F S128x1 .f32 :=
  k0_pay27 (pickV c I) sel64 (k0_pay24 tokCol) (k0_pay25 tokCol) (k0_pay26 tokCol) (Scalar.cmpi .slt sel64 0#32)
def rowGate : FVec F S128x1 .f32 := k0_pay28 (gateV c I) (pickV c I)
def rowExp : FVec F S128x1 .f32 := k0_pay29 (route I) (pickV c I)
def rowHome : FVec F S1x128 .f32 := k0_pay30 tokRow (pickV c I)
def rowLive : FVec F S1x128 .f32 := k0_pay31 (pickV c I)
/-- One expert's weights, as the body loads them. -/
def expW (e : ℕ) (inb : ∀ a, (![e, 0, 0] : Fin 3 → ℕ) a + S1x512x1024.size a ≤ S4x512x1024.size a) : Vec F S1x512x1024 .bf16 :=
  ewM.view.readAt (Elt F) (Rect.unit (s := S4x512x1024) ![e, 0, 0] S1x512x1024.size inb).toLoadRect I.ew
def expW0 : Vec F S1x512x1024 .bf16 := expW I 0 inb_S4x512x1024_S1x512x1024_0_0_0
def expW1 : Vec F S1x512x1024 .bf16 := expW I 1 inb_S4x512x1024_S1x512x1024_1_0_0
def expW2 : Vec F S1x512x1024 .bf16 := expW I 2 inb_S4x512x1024_S1x512x1024_2_0_0
def expW3 : Vec F S1x512x1024 .bf16 := expW I 3 inb_S4x512x1024_S1x512x1024_3_0_0
/-- The rows through the first three experts, through the last, and which rows are the last one's. -/
def outs3 : FVec F S128x1024 .f32 :=
  k0_pay34 (eLo c) (rowsX c I) (rowExp c I) (k0_pay32 (F := F)) (k0_pay33 (expW0 I)) (expW1 I) (expW2 I)
def outL : FVec F S128x1024 .f32 := k0_pay35 (rowsX c I) (expW3 I)
def lastE : FVec F S128x1 .f32 := k0_pay36 (F := F) (eLo c)
/-- The rows' payloads: the gated output, the place, zeros. -/
def payD : FVec F S128x1024 .bf16 := k0_pay37 (rowGate c I) (rowExp c I) (outs3 c I) (outL c I) (lastE c)
def payP : FVec F S128x1 .bf16 := k0_pay38 (rowPlace c I)
def payZ : FVec F S128x127 .bf16 := k0_pay39
/-- Which rows go to which device, each row's number among them, and which packet slot takes which row. -/
def homeB : FVec F S16x128 .bf16 := k0_pay40 (rowHome c I) (rowLive c I)
def homeF : FVec F S16x128 .f32 := k0_pay41 (rowHome c I) (rowLive c I)
def slotCol : IVec S256x1 32 := iota .tc S256x1 32 [0] iota_S256x1_d0_w32
def bigPos : FVec F S256x128 .f32 := k0_pay45 (homeF c I) slotCol 16#32 k0_pay42 k0_pay43
def bigHome : FVec F S256x128 .f32 := k0_pay46 (homeB c I) slotCol 16#32 k0_pay42 k0_pay43
def slotNo : IVec S256x1 32 := k0_pay47 slotCol

/-- A payload row's column. -/
def bandCol (i : S128x1152.Idx) : ℕ := (i 1).val
theorem bandCol_lt (i : S128x1152.Idx) : bandCol i < 1152 := (i 1).isLt

/-- Three bands of columns side by side. -/
def bands (p : FVec F S128x1024 .bf16) (q : FVec F S128x1 .bf16) (z : FVec F S128x127 .bf16) : (cc0_scratch2 : Ref sig .tc).ty.Contents (Elt F) := fun (i : S128x1152.Idx) =>
  if h : bandCol i < 1024 then p (ix2 (i 0 : Fin 128) ⟨bandCol i, h⟩)
  else if h : bandCol i < 1025 then q (ix2 (i 0 : Fin 128) 0)
  else z (ix2 (i 0 : Fin 128) ⟨bandCol i - 1025, by have := bandCol_lt i; omega⟩)
def payRows : (cc0_scratch2 : Ref sig .tc).ty.Contents (Elt F) := bands (payD c I) (payP c I) payZ
/-- The packets the device sends. -/
def packets : S16x16x1152.Idx → Elt F .bf16 := k0_pay48 (bigPos c I) (bigHome c I) slotNo (payRows c I)

/-- The device's own tokens. -/
def ownX : Vec F S64x512 .bf16 :=
  xM.view.readAt (Elt F) (Rect.unit (s := S1024x512) (k0_off3 c) S64x512.size (k0_off3_inb c)).toLoadRect I.x
/-- The device's result, from its own blocks and what landed. -/
def resultOf (l : S16x16x1152.Idx → Elt F .bf16) : FVec F S64x1024 .f32 := k0_pay50 (k0_pay49 (ownX c I) I.sw) l

end Cert.Exchange
-- ==== Proof.BodyMsg.lean ====
/-
The body's second stretch: the packets, from the loaded blocks to the last payload row.
-/
module

public import proofs.«01_k».proof.Proof.Values

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (c : Dev nD) (I : Blocks F)

set_option maxHeartbeats 1600000 in
theorem part5_spec (Kt : (Σ' (v137 : FVec F S1024x1 .f32) (v138 : IVec S1024x1 32) (v139 : IVec S1x1024 32) (v144 : IVec S1024x1 1) (v152 : FVec F S128x128 .bf16) (v155 : FVec F S1024x1 .bf16) (v160 : FVec F S128x1 .f32) (v166 : FVec F S128x1 .f32) (v172 : FVec F S128x1 .f32) (v174 : FVec F S1x1 .f32), FVec F S128x1 .f32) → sProp 𝕄) :
    Kt ⟨gateV c I, tokCol, tokRow, mineV c I, lowerV, mineF c I, pos0 c I, pos1 c I, pos2 c I, off3 c I, cnt3 c I⟩
      ⊢ wp frame (wpE (defs₀ (F := F)) 𝒱₀ c none) Set.univ (onBufs k0_part5 (prob I) (route I) (eLo c) (eHi c) lane (gate3 c I)) Kt := by
  unfold onBufs
  unfold gateV tokCol tokRow mineV lowerV mineF pos0 pos1 pos2 off3 cnt3
  simp only [k0_part5_eq_skeleton]; unfold k0_part5_skel
  simp only [Prog.pure_eq_ret]
  iintro Hk
  rw [wp_ret]; imodintro
  iexact Hk

set_option maxHeartbeats 1600000 in
theorem part6_spec (Kt : (Σ' (v214 : FVec F S1024x128 .f32) (v215 : FVec F S128x512 .f32) (v217 : BitVec 32) (v219 : IVec S1024x1 32) (v221 : IVec S1024x1 1) (v223 : IVec S1024x1 1), BitVec 1) → sProp 𝕄) :
    Kt ⟨pickV c I, rowsX c I, sel64, k0_pay24 tokCol, k0_pay25 tokCol, k0_pay26 tokCol, Scalar.cmpi .slt sel64 0#32⟩
      ⊢ wp frame (wpE (defs₀ (F := F)) 𝒱₀ c none) Set.univ (onBufs k0_part6 (k0_pay1 I.x) tokCol (mineV c I) lowerV (mineF c I) (pos0 c I) (pos1 c I) (pos2 c I) (off3 c I) (cnt3 c I)) Kt := by
  unfold onBufs
  unfold pickV rowsX sel64
  simp only [k0_part6_eq_skeleton]; unfold k0_part6_skel
  simp only [Prog.pure_eq_ret]
  iintro Hk
  rw [wp_ret]; imodintro
  iexact Hk

set_option maxHeartbeats 1600000 in
theorem part7_spec (Kt : (Σ' (v233 : FVec F S128x1 .f32) (v234 : FVec F S128x1 .f32) (v236 : FVec F S128x1 .f32) (v262 : FVec F S1x128 .f32) (v264 : FVec F S1x128 .f32) (v265 : FVec F S128x1024 .f32), FVec F S512x1024 .bf16) → sProp 𝕄) :
    iprop(held c cc0_stg3_0 I.ew ∗ (held c cc0_stg3_0 I.ew -∗ Kt ⟨rowPlace c I, rowGate c I, rowExp c I, rowHome c I, rowLive c I, k0_pay32 (F := F), k0_pay33 (expW0 I)⟩))
      ⊢ wp frame (wpE (defs₀ (F := F)) 𝒱₀ c none) Set.univ (onBufs k0_part7 (route I) (gateV c I) tokRow (pickV c I) sel64 (k0_pay24 tokCol) (k0_pay25 tokCol) (k0_pay26 tokCol) (Scalar.cmpi .slt sel64 0#32)) Kt := by
  unfold onBufs
  unfold rowPlace rowGate rowExp rowHome rowLive expW0 expW
  simp only [k0_part7_eq_skeleton]; unfold k0_part7_skel
  simp only [Prog.lift, Prog.bind_op, Prog.bind_ret, Prog.pure_eq_ret]
  iintro ⟨Hw, Hk⟩
  iapply (wp_load 𝒱₀ (c : Thread nD τ) none Set.univ (m := ewM) (Finset.subset_univ _)) $$ Hw; iintro Hw
  rw [wp_ret]; imodintro
  iapply Hk
  iexact Hw

set_option maxHeartbeats 1600000 in
theorem part8_spec (Kt : (Σ' (v301 : FVec F S128x1024 .f32) (v304 : FVec F S128x1024 .f32), FVec F S128x1 .f32) → sProp 𝕄) :
    iprop(held c cc0_stg3_0 I.ew ∗ (held c cc0_stg3_0 I.ew -∗ Kt ⟨outs3 c I, outL c I, lastE c⟩))
      ⊢ wp frame (wpE (defs₀ (F := F)) 𝒱₀ c none) Set.univ (onBufs k0_part8 (eLo c) (rowsX c I) (rowExp c I) (k0_pay32 (F := F)) (k0_pay33 (expW0 I))) Kt := by
  unfold onBufs
  unfold outs3 outL lastE expW1 expW2 expW3 expW
  simp only [k0_part8_eq_skeleton]; unfold k0_part8_skel
  simp only [Prog.lift, Prog.bind_op, Prog.bind_ret, Prog.pure_eq_ret]
  iintro ⟨Hw, Hk⟩
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  iapply (wp_load 𝒱₀ (c : Thread nD τ) none Set.univ (m := ewM) (Finset.subset_univ _)) $$ Hw; iintro Hw
  rw [wp_ret]; imodintro
  iapply Hk
  iexact Hw

/-! ## The payload rows, written band by band -/

omit [FloatOps F] in
/-- A write to a band of columns changes that band only. -/
theorem band_write (lo w : ℕ) (inb : ∀ a, (![0, lo] : Fin 2 → ℕ) a + (![128, w] : Fin 2 → ℕ) a ≤ S128x1152.size a)
    (f : (cc0_scratch2 : Ref sig .tc).ty.Contents (Elt F)) (g : (⟨2, ![128, w]⟩ : Shape).Idx → Elt F .bf16) (i : S128x1152.Idx) :
    ((yM.access (Rect.unit (s := S128x1152) ![0, lo] ![128, w] inb)) : View sig .tc _ _ _).write (Elt F) f g Finset.univ i
      = if h : lo ≤ bandCol i ∧ bandCol i < lo + w then g (ix2 (i 0 : Fin 128) ⟨bandCol i - lo, by omega⟩) else f i := by
  by_cases h : lo ≤ bandCol i ∧ bandCol i < lo + w
  · rw [dif_pos h]
    have hi : i = ((yM.access (Rect.unit (s := S128x1152) ![0, lo] ![128, w] inb)) : View sig .tc _ _ _).emb (ix2 (i 0 : Fin 128) ⟨bandCol i - lo, by omega⟩) := by
      funext a
      apply Fin.ext
      match a with
      | ⟨0, _⟩ => show (i 0).val = 0 + 1 * (i 0).val; omega
      | ⟨1, _⟩ => show bandCol i = lo + 1 * (bandCol i - lo); omega
    have key := View.write_emb_of_mem (v := ((yM.access (Rect.unit (s := S128x1152) ![0, lo] ![128, w] inb)) : View sig .tc _ _ _)) (Val := Elt F) f g
      (M := Finset.univ) (x := ix2 (i 0 : Fin 128) ⟨bandCol i - lo, by omega⟩) (Finset.mem_univ _)
    rw [← hi] at key
    exact key
  · rw [dif_neg h]
    apply View.write_of_not_mem
    intro hm
    obtain ⟨j, -, rfl⟩ := Finset.mem_map.mp hm
    apply h
    have hj : (j 1 : Fin w).val < w := (j 1 : Fin w).isLt
    show lo ≤ lo + 1 * (j 1 : Fin w).val ∧ lo + 1 * (j 1 : Fin w).val < lo + w
    omega

omit [FloatOps F] in
/-- The three bands, whatever the rows held before. -/
theorem bands_write (f : (cc0_scratch2 : Ref sig .tc).ty.Contents (Elt F)) (p : FVec F S128x1024 .bf16) (q : FVec F S128x1 .bf16) (z : FVec F S128x127 .bf16) :
    ((yM.access (Rect.unit (s := S128x1152) ![0, 1025] S128x127.size inb_S128x1152_S128x127_0_1025)) : View sig .tc _ _ _).write (Elt F)
      (((yM.access (Rect.unit (s := S128x1152) ![0, 1024] S128x1.size inb_S128x1152_S128x1_0_1024)) : View sig .tc _ _ _).write (Elt F)
        (((yM.access (Rect.unit (s := S128x1152) ![0, 0] S128x1024.size inb_S128x1152_S128x1024_0_0)) : View sig .tc _ _ _).write (Elt F) f p Finset.univ)
        q Finset.univ) z Finset.univ = bands p q z := by
  funext i
  have h1 := bandCol_lt i
  refine (band_write 1025 127 inb_S128x1152_S128x127_0_1025 _ z i).trans ?_
  unfold bands
  dsimp only
  by_cases ha : bandCol i < 1024
  · rw [dif_neg (by omega), dif_pos ha]
    refine (band_write 1024 1 inb_S128x1152_S128x1_0_1024 _ q i).trans ?_
    rw [dif_neg (by omega)]
    refine (band_write 0 1024 inb_S128x1152_S128x1024_0_0 _ p i).trans ?_
    rw [dif_pos (by omega)]
    rfl
  · rw [dif_neg ha]
    by_cases hb : bandCol i < 1025
    · rw [dif_neg (by omega), dif_pos hb]
      refine (band_write 1024 1 inb_S128x1152_S128x1_0_1024 _ q i).trans ?_
      rw [dif_pos (by omega)]
      exact congrArg q (congrArg (ix2 (i 0 : Fin 128)) (Fin.ext (show bandCol i - 1024 = 0 by omega)))
    · rw [dif_pos (by omega), dif_neg hb]

set_option maxHeartbeats 1600000 in
theorem part9_spec (f8 : (cc0_scratch2 : Ref sig .tc).ty.Contents (Elt F)) (Kt : (Σ' (v347 : FVec F S16x128 .bf16) (v348 : FVec F S16x128 .f32) (v349 : IVec S256x1 32) (c16_i32_137 : BitVec 32) (v351 : IVec S256x1 32), IVec S256x1 32) → sProp 𝕄) :
    iprop(held c cc0_scratch2 f8 ∗ (held c cc0_scratch2 (payRows c I) -∗ Kt ⟨homeB c I, homeF c I, slotCol, 16#32, k0_pay42, k0_pay43⟩))
      ⊢ wp frame (wpE (defs₀ (F := F)) 𝒱₀ c none) Set.univ (onBufs k0_part9 (rowPlace c I) (rowGate c I) (rowExp c I) (rowHome c I) (rowLive c I) (outs3 c I) (outL c I) (lastE c)) Kt := by
  unfold onBufs
  unfold homeB homeF slotCol payRows payD payP payZ
  simp only [k0_part9_eq_skeleton]; unfold k0_part9_skel
  simp only [Prog.lift, Prog.bind_op, Prog.bind_ret, Prog.pure_eq_ret]
  iintro ⟨Hw, Hk⟩
  iapply (wp_load 𝒱₀ (c : Thread nD τ) none Set.univ (m := yM) (Finset.subset_univ _)) $$ Hw; iintro Hw
  iapply (wp_store 𝒱₀ (c : Thread nD τ) none Set.univ (m := yM) (r := Rect.unit (s := S128x1152) ![0, 0] S128x1024.size inb_S128x1152_S128x1024_0_0) (Mk := Finset.univ) (Finset.subset_univ _)) $$ Hw; iintro Hw
  iapply (wp_load 𝒱₀ (c : Thread nD τ) none Set.univ (m := yM) (Finset.subset_univ _)) $$ Hw; iintro Hw
  iapply (wp_store 𝒱₀ (c : Thread nD τ) none Set.univ (m := yM) (r := Rect.unit (s := S128x1152) ![0, 1024] S128x1.size inb_S128x1152_S128x1_0_1024) (Mk := Finset.univ) (Finset.subset_univ _)) $$ Hw; iintro Hw
  iapply (wp_load 𝒱₀ (c : Thread nD τ) none Set.univ (m := yM) (Finset.subset_univ _)) $$ Hw; iintro Hw
  iapply (wp_store 𝒱₀ (c : Thread nD τ) none Set.univ (m := yM) (r := Rect.unit (s := S128x1152) ![0, 1025] S128x127.size inb_S128x1152_S128x127_0_1025) (Mk := Finset.univ) (Finset.subset_univ _)) $$ Hw; iintro Hw
  rw [wp_ret]; imodintro
  iapply Hk
  rw [bands_write]
  iexact Hw

set_option maxHeartbeats 1600000 in
theorem part10_spec (Kt : (Σ' (v382 : FVec F S256x128 .f32) (v383 : FVec F S256x128 .f32), IVec S256x1 32) → sProp 𝕄) :
    Kt ⟨bigPos c I, bigHome c I, slotNo⟩
      ⊢ wp frame (wpE (defs₀ (F := F)) 𝒱₀ c none) Set.univ (onBufs k0_part10 (homeB c I) (homeF c I) slotCol 16#32 k0_pay42 k0_pay43) Kt := by
  unfold onBufs
  unfold bigPos bigHome slotNo
  simp only [k0_part10_eq_skeleton]; unfold k0_part10_skel
  simp only [Prog.pure_eq_ret]
  iintro Hk
  rw [wp_ret]; imodintro
  iexact Hk

end Cert.Exchange
-- ==== Proof.BodySend.lean ====
/-
The body's third stretch: each of the sixteen packets sent once its credit is in.
-/
module

public import proofs.«01_k».proof.Proof.BodyMsg

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (pk : Dev nD → S16x16x1152.Idx → Elt F .bf16) (K : Dev nD × Ck → ℕ) (c : Dev nD) (I : Blocks F)

theorem rangeSet_none (n : ℕ) : rangeSet 16 n n = ∅ := by
  ext k; simp [rangeSet]

/-- The rights and duties of the sixteen copies. -/
def preB : sProp 𝕄 :=
  iprop((bigSep Finset.univ fun d : Fin 16 => iprop(cred (tallyAt (crCell c d) () 1) ∗ atPos ER (crCell c d) 0 ∅ 0))
    ∗ (bigSep Finset.univ fun d : Fin 16 => dutyTok ER (sdCell c d) 0 ()) ∗ (bigSep Finset.univ fun d : Fin 16 => dutyTok ER (rvCell (d : Dev nD) c) 0 ()))

omit [FloatOps F] in
/-- With the packets written, everything the sends start from. -/
theorem stB_start : iprop(preB (F := F) c ∗ held (F := F) c cc0_scratch0 (pk c) ∗ ∃ W, owes (c : Thread nD τ) (ORv c 0) W) ⊢ stB pk c 0 := by
  unfold preB stB holdB
  rw [rangeSet_univ, rangeSet_none, bigSep_empty]
  simp only [bigSep_sep']
  iintro ⟨⟨⟨H1, H1'⟩, H2, H3⟩, H4, HO⟩
  ihave H4' := (Entails.of_eq (snd_slots (F := F) c (pk c))) $$ H4
  isplitl [H1 H1' H2 H3 H4']
  · isplitl [H1 H1']
    · isplitl [H1]; · iexact H1
      iexact H1'
    isplitl [H2]; · iexact H2
    isplitl [H3]; · iexact H3
    iexact H4'
  isplitr; · iempintro
  iexact HO

set_option maxHeartbeats 1600000 in
theorem part11_spec (hpk : pk c = packets c I) (f6 : (cc0_scratch0 : Ref sig .tc).ty.Contents (Elt F)) (Kt : PUnit.{1} → sProp 𝕄) :
    iprop(records pk K ∗ (preB (F := F) c ∗ held c cc0_scratch0 f6 ∗ ∃ W, owes (c : Thread nD τ) (ORv c 0) W) ∗ held c cc0_scratch2 (payRows c I)
        ∗ ((stB' pk c 1 ∗ held c cc0_scratch2 (payRows c I)) -∗ Kt ⟨⟩))
      ⊢ wp frame (wpE (defs₀ (F := F)) 𝒱₀ c none) Set.univ (onBufs k0_part11 c (bigPos c I) (bigHome c I) slotNo) Kt := by
  unfold onBufs
  simp only [k0_part11_eq_skeleton]; unfold k0_part11_skel
  simp only [semSignalWord, semWaitWord, Prog.lift, Prog.bind_op, Prog.bind_ret, Prog.pure_eq_ret]
  iintro ⟨#HR, ⟨HP, H6, HO⟩, H8, Hk⟩
  iapply (wp_load 𝒱₀ (c : Thread nD τ) none Set.univ (m := yM) (Finset.subset_univ _)) $$ H8; iintro H8
  rw [read_y]
  iapply (wp_load 𝒱₀ (c : Thread nD τ) none Set.univ (m := sndM) (Finset.subset_univ _)) $$ H6; iintro H6
  iapply (wp_store 𝒱₀ (c : Thread nD τ) none Set.univ (m := sndM) (r := Rect.unit (s := S16x16x1152) ![0, 0, 0] S16x16x1152.size inb_S16x16x1152_S16x16x1152_0_0_0) (Mk := Finset.univ) (Finset.subset_univ _)) $$ H6; iintro H6
  rw [write_snd]
  ihave HS := (show iprop(preB (F := F) c ∗ held (F := F) c cc0_scratch0 (k0_pay48 (bigPos c I) (bigHome c I) slotNo (payRows c I)) ∗ ∃ W, owes (c : Thread nD τ) (ORv c 0) W) ⊢ stB pk c 0 from by
    have h := stB_start pk c
    rw [hpk] at h
    exact h) $$ [HP H6 HO]
  · isplitl [HP]; · iexact HP
    isplitl [H6]; · iexact H6
    iexact HO
  iapply (step_credit pk K c 0 _ rfl _ (by decide)) $$ [HS]
  · isplitr; · iexact HR
    iexact HS
  iintro HS
  iapply (step_send pk K c _ 0 (Fin.ext k0_dev18_eq) _ _ rfl (recv_own c) _ _ (k0_off2_eq c)) $$ [HS]
  · isplitr; · iexact HR
    iexact HS
  iintro HS
  iapply (step_credit pk K c 1 _ rfl _ (by decide)) $$ [HS]
  · isplitr; · iexact HR
    iexact HS
  iintro HS
  rw [wp_ret]; imodintro
  iapply Hk
  isplitl [HS]; · iexact HS
  iexact H8

set_option maxHeartbeats 1600000 in
theorem part12_spec (Kt : PUnit.{1} → sProp 𝕄) :
    iprop(records pk K ∗ stB' pk c 1 ∗ (stB' pk c 3 -∗ Kt ⟨⟩))
      ⊢ wp frame (wpE (defs₀ (F := F)) 𝒱₀ c none) Set.univ (onBufs k0_part12 c) Kt := by
  unfold onBufs
  simp only [k0_part12_eq_skeleton]; unfold k0_part12_skel
  simp only [semSignalWord, semWaitWord, Prog.lift, Prog.bind_op, Prog.bind_ret, Prog.pure_eq_ret]
  iintro ⟨#HR, HS, Hk⟩
  iapply (step_send pk K c _ 1 (Fin.ext k0_dev19_eq) _ _ rfl (recv_own c) _ _ (k0_off2_eq c)) $$ [HS]
  · isplitr; · iexact HR
    iexact HS
  iintro HS
  iapply (step_credit pk K c 2 _ rfl _ (by decide)) $$ [HS]
  · isplitr; · iexact HR
    iexact HS
  iintro HS
  iapply (step_send pk K c _ 2 (Fin.ext k0_dev20_eq) _ _ rfl (recv_own c) _ _ (k0_off2_eq c)) $$ [HS]
  · isplitr; · iexact HR
    iexact HS
  iintro HS
  iapply (step_credit pk K c 3 _ rfl _ (by decide)) $$ [HS]
  · isplitr; · iexact HR
    iexact HS
  iintro HS
  rw [wp_ret]; imodintro
  iapply Hk
  iexact HS

set_option maxHeartbeats 1600000 in
theorem part13_spec (Kt : PUnit.{1} → sProp 𝕄) :
    iprop(records pk K ∗ stB' pk c 3 ∗ (stB' pk c 5 -∗ Kt ⟨⟩))
      ⊢ wp frame (wpE (defs₀ (F := F)) 𝒱₀ c none) Set.univ (onBufs k0_part13 c) Kt := by
  unfold onBufs
  simp only [k0_part13_eq_skeleton]; unfold k0_part13_skel
  simp only [semSignalWord, semWaitWord, Prog.lift, Prog.bind_op, Prog.bind_ret, Prog.pure_eq_ret]
  iintro ⟨#HR, HS, Hk⟩
  iapply (step_send pk K c _ 3 (Fin.ext k0_dev21_eq) _ _ rfl (recv_own c) _ _ (k0_off2_eq c)) $$ [HS]
  · isplitr; · iexact HR
    iexact HS
  iintro HS
  iapply (step_credit pk K c 4 _ rfl _ (by decide)) $$ [HS]
  · isplitr; · iexact HR
    iexact HS
  iintro HS
  iapply (step_send pk K c _ 4 (Fin.ext k0_dev22_eq) _ _ rfl (recv_own c) _ _ (k0_off2_eq c)) $$ [HS]
  · isplitr; · iexact HR
    iexact HS
  iintro HS
  iapply (step_credit pk K c 5 _ rfl _ (by decide)) $$ [HS]
  · isplitr; · iexact HR
    iexact HS
  iintro HS
  rw [wp_ret]; imodintro
  iapply Hk
  iexact HS

set_option maxHeartbeats 1600000 in
theorem part14_spec (Kt : PUnit.{1} → sProp 𝕄) :
    iprop(records pk K ∗ stB' pk c 5 ∗ (stB pk c 8 -∗ Kt ⟨⟩))
      ⊢ wp frame (wpE (defs₀ (F := F)) 𝒱₀ c none) Set.univ (onBufs k0_part14 c) Kt := by
  unfold onBufs
  simp only [k0_part14_eq_skeleton]; unfold k0_part14_skel
  simp only [semSignalWord, semWaitWord, Prog.lift, Prog.bind_op, Prog.bind_ret, Prog.pure_eq_ret]
  iintro ⟨#HR, HS, Hk⟩
  iapply (step_send pk K c _ 5 (Fin.ext k0_dev23_eq) _ _ rfl (recv_own c) _ _ (k0_off2_eq c)) $$ [HS]
  · isplitr; · iexact HR
    iexact HS
  iintro HS
  iapply (step_credit pk K c 6 _ rfl _ (by decide)) $$ [HS]
  · isplitr; · iexact HR
    iexact HS
  iintro HS
  iapply (step_send pk K c _ 6 (Fin.ext k0_dev24_eq) _ _ rfl (recv_own c) _ _ (k0_off2_eq c)) $$ [HS]
  · isplitr; · iexact HR
    iexact HS
  iintro HS
  iapply (step_credit pk K c 7 _ rfl _ (by decide)) $$ [HS]
  · isplitr; · iexact HR
    iexact HS
  iintro HS
  iapply (step_send pk K c _ 7 (Fin.ext k0_dev25_eq) _ _ rfl (recv_own c) _ _ (k0_off2_eq c)) $$ [HS]
  · isplitr; · iexact HR
    iexact HS
  iintro HS
  rw [wp_ret]; imodintro
  iapply Hk
  iexact HS

set_option maxHeartbeats 1600000 in
theorem part15_spec (Kt : PUnit.{1} → sProp 𝕄) :
    iprop(records pk K ∗ stB pk c 8 ∗ (stB' pk c 10 -∗ Kt ⟨⟩))
      ⊢ wp frame (wpE (defs₀ (F := F)) 𝒱₀ c none) Set.univ (onBufs k0_part15 c) Kt := by
  unfold onBufs
  simp only [k0_part15_eq_skeleton]; unfold k0_part15_skel
  simp only [semSignalWord, semWaitWord, Prog.lift, Prog.bind_op, Prog.bind_ret, Prog.pure_eq_ret]
  iintro ⟨#HR, HS, Hk⟩
  iapply (step_credit pk K c 8 _ rfl _ (by decide)) $$ [HS]
  · isplitr; · iexact HR
    iexact HS
  iintro HS
  iapply (step_send pk K c _ 8 (Fin.ext k0_dev26_eq) _ _ rfl (recv_own c) _ _ (k0_off2_eq c)) $$ [HS]
  · isplitr; · iexact HR
    iexact HS
  iintro HS
  iapply (step_credit pk K c 9 _ rfl _ (by decide)) $$ [HS]
  · isplitr; · iexact HR
    iexact HS
  iintro HS
  iapply (step_send pk K c _ 9 (Fin.ext k0_dev27_eq) _ _ rfl (recv_own c) _ _ (k0_off2_eq c)) $$ [HS]
  · isplitr; · iexact HR
    iexact HS
  iintro HS
  iapply (step_credit pk K c 10 _ rfl _ (by decide)) $$ [HS]
  · isplitr; · iexact HR
    iexact HS
  iintro HS
  rw [wp_ret]; imodintro
  iapply Hk
  iexact HS

set_option maxHeartbeats 1600000 in
theorem part16_spec (Kt : PUnit.{1} → sProp 𝕄) :
    iprop(records pk K ∗ stB' pk c 10 ∗ (stB' pk c 12 -∗ Kt ⟨⟩))
      ⊢ wp frame (wpE (defs₀ (F := F)) 𝒱₀ c none) Set.univ (onBufs k0_part16 c) Kt := by
  unfold onBufs
  simp only [k0_part16_eq_skeleton]; unfold k0_part16_skel
  simp only [semSignalWord, semWaitWord, Prog.lift, Prog.bind_op, Prog.bind_ret, Prog.pure_eq_ret]
  iintro ⟨#HR, HS, Hk⟩
  iapply (step_send pk K c _ 10 (Fin.ext k0_dev28_eq) _ _ rfl (recv_own c) _ _ (k0_off2_eq c)) $$ [HS]
  · isplitr; · iexact HR
    iexact HS
  iintro HS
  iapply (step_credit pk K c 11 _ rfl _ (by decide)) $$ [HS]
  · isplitr; · iexact HR
    iexact HS
  iintro HS
  iapply (step_send pk K c _ 11 (Fin.ext k0_dev29_eq) _ _ rfl (recv_own c) _ _ (k0_off2_eq c)) $$ [HS]
  · isplitr; · iexact HR
    iexact HS
  iintro HS
  iapply (step_credit pk K c 12 _ rfl _ (by decide)) $$ [HS]
  · isplitr; · iexact HR
    iexact HS
  iintro HS
  rw [wp_ret]; imodintro
  iapply Hk
  iexact HS

set_option maxHeartbeats 1600000 in
theorem part17_spec (Kt : PUnit.{1} → sProp 𝕄) :
    iprop(records pk K ∗ stB' pk c 12 ∗ (stB pk c 15 -∗ Kt ⟨⟩))
      ⊢ wp frame (wpE (defs₀ (F := F)) 𝒱₀ c none) Set.univ (onBufs k0_part17 c) Kt := by
  unfold onBufs
  simp only [k0_part17_eq_skeleton]; unfold k0_part17_skel
  simp only [semSignalWord, semWaitWord, Prog.lift, Prog.bind_op, Prog.bind_ret, Prog.pure_eq_ret]
  iintro ⟨#HR, HS, Hk⟩
  iapply (step_send pk K c _ 12 (Fin.ext k0_dev30_eq) _ _ rfl (recv_own c) _ _ (k0_off2_eq c)) $$ [HS]
  · isplitr; · iexact HR
    iexact HS
  iintro HS
  iapply (step_credit pk K c 13 _ rfl _ (by decide)) $$ [HS]
  · isplitr; · iexact HR
    iexact HS
  iintro HS
  iapply (step_send pk K c _ 13 (Fin.ext k0_dev31_eq) _ _ rfl (recv_own c) _ _ (k0_off2_eq c)) $$ [HS]
  · isplitr; · iexact HR
    iexact HS
  iintro HS
  iapply (step_credit pk K c 14 _ rfl _ (by decide)) $$ [HS]
  · isplitr; · iexact HR
    iexact HS
  iintro HS
  iapply (step_send pk K c _ 14 (Fin.ext k0_dev32_eq) _ _ rfl (recv_own c) _ _ (k0_off2_eq c)) $$ [HS]
  · isplitr; · iexact HR
    iexact HS
  iintro HS
  rw [wp_ret]; imodintro
  iapply Hk
  iexact HS

end Cert.Exchange
-- ==== Proof.BodyRecv.lean ====
/-
The body's last stretches: the last packet, the sixteen arrivals, the result, the sixteen departures.
-/
module

public import proofs.«01_k».proof.Proof.BodySend

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (pk : Dev nD → S16x16x1152.Idx → Elt F .bf16) (K : Dev nD × Ck → ℕ) (c : Dev nD) (I : Blocks F)

/-- The rights to the sixteen arrivals. -/
def preC : sProp 𝕄 := bigSep Finset.univ (holdC (F := F) c)
/-- The closed credit cells, and the rights to the sixteen departures. -/
def zeroB : sProp 𝕄 := bigSep Finset.univ fun d : Fin 16 => semVal (crCell c d) 0
def posD : sProp 𝕄 := bigSep Finset.univ fun d : Fin 16 => atPos ER (sdCell c d) 0 ∅ 0
def zeroC : sProp 𝕄 := bigSep Finset.univ fun s : Fin 16 => semVal (rvCell c s) 0
def zeroD : sProp 𝕄 := bigSep Finset.univ fun d : Fin 16 => semVal (sdCell c d) 0

omit [FloatOps F] in
/-- All packets sent: the departures' rights, and what is owed is nothing. -/
theorem stB_end : iprop(stB pk c 16 ∗ preC (F := F) c) ⊢ iprop((bigSep Finset.univ fun d : Fin 16 => cred (tallyAt (sdCell c d) () N)) ∗ zeroB (F := F) c ∗ stC pk c 0) := by
  unfold stB doneB stC preC zeroB
  rw [rangeSet_univ, bigSep_sep', rangeSet_none, rangeSet_none, bigSep_empty, bigSep_empty, ORv_end]
  iintro ⟨⟨-, ⟨H1, H2⟩, HO⟩, H3⟩
  isplitl [H1]; · iexact H1
  isplitl [H2]; · iexact H2
  isplitl [H3]; · iexact H3
  isplitr; · iempintro
  iexact HO

omit [FloatOps F] in
/-- All arrived: the landing buffer whole. -/
theorem stC_end : stC pk c 16 ⊢ iprop(held (F := F) c cc0_scratch1 (landed pk c) ∗ zeroC (F := F) c ∗ ∃ W, owes (c : Thread nD τ) 0 W) := by
  unfold stC doneC zeroC
  rw [rangeSet_univ, bigSep_sep']
  iintro ⟨-, ⟨H1, H2⟩, HO⟩
  isplitl [H1]; · iapply (Entails.of_eq (rcv_slots (F := F) c (landed pk c)).symm); iexact H1
  isplitl [H2]; · iexact H2
  iexact HO

omit [FloatOps F] in
theorem stD_start : iprop((bigSep Finset.univ fun d : Fin 16 => cred (tallyAt (sdCell c d) () N)) ∗ posD (F := F) c ∗ ∃ W, owes (c : Thread nD τ) 0 W) ⊢ stD pk c 0 := by
  unfold stD holdD posD
  rw [rangeSet_univ, bigSep_sep', rangeSet_none, bigSep_empty]
  iintro ⟨H1, H2, HO⟩
  isplitl [H1 H2]
  · isplitl [H1]; · iexact H1
    iexact H2
  isplitr; · iempintro
  iexact HO

omit [FloatOps F] in
/-- All left: the outgoing buffer whole. -/
theorem stD_end : stD pk c 16 ⊢ iprop(held (F := F) c cc0_scratch0 (pk c) ∗ zeroD (F := F) c ∗ ∃ W, owes (c : Thread nD τ) 0 W) := by
  unfold stD doneD zeroD
  rw [rangeSet_univ, bigSep_sep']
  iintro ⟨-, ⟨H1, H2⟩, HO⟩
  isplitl [H1]; · iapply (Entails.of_eq (snd_slots (F := F) c (pk c)).symm); iexact H1
  isplitl [H2]; · iexact H2
  iexact HO

/-- The rights to the departures that the sends leave. -/
abbrev leaving : sProp 𝕄 := bigSep Finset.univ fun d : Fin 16 => cred (tallyAt (sdCell c d) () N)

set_option maxHeartbeats 1600000 in
theorem part18_spec (v2 : BitVec 32) (Kt : (Σ' (_ : FVec F S64x1024 .f32), BitVec 32) → sProp 𝕄) :
    iprop(records pk K ∗ (stB pk c 15 ∗ preC (F := F) c) ∗ held c cc0_stg0_0 I.x ∗ held c cc0_stg4_0 I.sw
        ∗ (∀ w, (stC pk c 1 ∗ leaving (F := F) c ∗ zeroB (F := F) c ∗ held c cc0_stg0_0 I.x ∗ held c cc0_stg4_0 I.sw) -∗ Kt ⟨k0_pay49 (ownX c I) I.sw, w⟩))
      ⊢ wp frame (wpE (defs₀ (F := F)) 𝒱₀ c none) Set.univ (onBufs k0_part18 c v2) Kt := by
  unfold onBufs
  unfold ownX
  simp only [k0_part18_eq_skeleton]; unfold k0_part18_skel
  simp only [semSignalWord, semWaitWord, Prog.lift, Prog.bind_op, Prog.bind_ret, Prog.pure_eq_ret]
  iintro ⟨#HR, ⟨HS, HC⟩, Hx, Hw, Hk⟩
  iapply (step_credit pk K c 15 _ rfl _ (by decide)) $$ [HS]
  · isplitr; · iexact HR
    iexact HS
  iintro HS
  iapply (step_send pk K c _ 15 (Fin.ext k0_dev33_eq) _ _ rfl (recv_own c) _ _ (k0_off2_eq c)) $$ [HS]
  · isplitr; · iexact HR
    iexact HS
  iintro HS
  ihave HE := (stB_end pk c) $$ [HS HC]
  · isplitl [HS]; · iexact HS
    iexact HC
  icases HE with ⟨HL, HZ, HS⟩
  iapply (wp_load 𝒱₀ (c : Thread nD τ) none Set.univ (m := xM) (Finset.subset_univ _)) $$ Hx; iintro Hx
  iapply (wp_load 𝒱₀ (c : Thread nD τ) none Set.univ (m := swM) (Finset.subset_univ _)) $$ Hw; iintro Hw
  rw [read_sw]
  iapply (step_recv pk K c 0 _ rfl) $$ [HS]
  · isplitr; · iexact HR
    iexact HS
  iintro HS
  rw [wp_ret]; imodintro
  iapply Hk
  isplitl [HS]; · iexact HS
  isplitl [HL]; · iexact HL
  isplitl [HZ]; · iexact HZ
  isplitl [Hx]; · iexact Hx
  iexact Hw

set_option maxHeartbeats 1600000 in
theorem part19_spec (v2 v3 : BitVec 32) (Kt : PUnit.{1} → sProp 𝕄) :
    iprop(records pk K ∗ stC pk c 1 ∗ (stC pk c 4 -∗ Kt ⟨⟩))
      ⊢ wp frame (wpE (defs₀ (F := F)) 𝒱₀ c none) Set.univ (onBufs k0_part19 v2 v3) Kt := by
  unfold onBufs
  simp only [k0_part19_eq_skeleton]; unfold k0_part19_skel
  simp only [semSignalWord, semWaitWord, Prog.lift, Prog.bind_op, Prog.bind_ret, Prog.pure_eq_ret]
  iintro ⟨#HR, HS, Hk⟩
  iapply (step_recv pk K c 1 _ rfl) $$ [HS]
  · isplitr; · iexact HR
    iexact HS
  iintro HS
  iapply (step_recv pk K c 2 _ rfl) $$ [HS]
  · isplitr; · iexact HR
    iexact HS
  iintro HS
  iapply (step_recv pk K c 3 _ rfl) $$ [HS]
  · isplitr; · iexact HR
    iexact HS
  iintro HS
  rw [wp_ret]; imodintro
  iapply Hk
  iexact HS

set_option maxHeartbeats 1600000 in
theorem part20_spec (v2 : BitVec 32) (Kt : PUnit.{1} → sProp 𝕄) :
    iprop(records pk K ∗ stC pk c 4 ∗ (stC pk c 7 -∗ Kt ⟨⟩))
      ⊢ wp frame (wpE (defs₀ (F := F)) 𝒱₀ c none) Set.univ (onBufs k0_part20 v2) Kt := by
  unfold onBufs
  simp only [k0_part20_eq_skeleton]; unfold k0_part20_skel
  simp only [semSignalWord, semWaitWord, Prog.lift, Prog.bind_op, Prog.bind_ret, Prog.pure_eq_ret]
  iintro ⟨#HR, HS, Hk⟩
  iapply (step_recv pk K c 4 _ rfl) $$ [HS]
  · isplitr; · iexact HR
    iexact HS
  iintro HS
  iapply (step_recv pk K c 5 _ rfl) $$ [HS]
  · isplitr; · iexact HR
    iexact HS
  iintro HS
  iapply (step_recv pk K c 6 _ rfl) $$ [HS]
  · isplitr; · iexact HR
    iexact HS
  iintro HS
  rw [wp_ret]; imodintro
  iapply Hk
  iexact HS

set_option maxHeartbeats 1600000 in
theorem part21_spec (v2 : BitVec 32) (Kt : PUnit.{1} → sProp 𝕄) :
    iprop(records pk K ∗ stC pk c 7 ∗ (stC pk c 10 -∗ Kt ⟨⟩))
      ⊢ wp frame (wpE (defs₀ (F := F)) 𝒱₀ c none) Set.univ (onBufs k0_part21 v2) Kt := by
  unfold onBufs
  simp only [k0_part21_eq_skeleton]; unfold k0_part21_skel
  simp only [semSignalWord, semWaitWord, Prog.lift, Prog.bind_op, Prog.bind_ret, Prog.pure_eq_ret]
  iintro ⟨#HR, HS, Hk⟩
  iapply (step_recv pk K c 7 _ rfl) $$ [HS]
  · isplitr; · iexact HR
    iexact HS
  iintro HS
  iapply (step_recv pk K c 8 _ rfl) $$ [HS]
  · isplitr; · iexact HR
    iexact HS
  iintro HS
  iapply (step_recv pk K c 9 _ rfl) $$ [HS]
  · isplitr; · iexact HR
    iexact HS
  iintro HS
  rw [wp_ret]; imodintro
  iapply Hk
  iexact HS

set_option maxHeartbeats 1600000 in
theorem part22_spec (v2 : BitVec 32) (Kt : PUnit.{1} → sProp 𝕄) :
    iprop(records pk K ∗ stC pk c 10 ∗ (stC pk c 13 -∗ Kt ⟨⟩))
      ⊢ wp frame (wpE (defs₀ (F := F)) 𝒱₀ c none) Set.univ (onBufs k0_part22 v2) Kt := by
  unfold onBufs
  simp only [k0_part22_eq_skeleton]; unfold k0_part22_skel
  simp only [semSignalWord, semWaitWord, Prog.lift, Prog.bind_op, Prog.bind_ret, Prog.pure_eq_ret]
  iintro ⟨#HR, HS, Hk⟩
  iapply (step_recv pk K c 10 _ rfl) $$ [HS]
  · isplitr; · iexact HR
    iexact HS
  iintro HS
  iapply (step_recv pk K c 11 _ rfl) $$ [HS]
  · isplitr; · iexact HR
    iexact HS
  iintro HS
  iapply (step_recv pk K c 12 _ rfl) $$ [HS]
  · isplitr; · iexact HR
    iexact HS
  iintro HS
  rw [wp_ret]; imodintro
  iapply Hk
  iexact HS

set_option maxHeartbeats 1600000 in
theorem part23_spec (v2 : BitVec 32) (v616 : FVec F S64x1024 .f32) (Kt : FVec F S64x1024 .f32 → sProp 𝕄) :
    iprop(records pk K ∗ stC pk c 13
        ∗ ((held c cc0_scratch1 (landed pk c) ∗ zeroC (F := F) c ∗ ∃ W, owes (c : Thread nD τ) 0 W) -∗ Kt (k0_pay50 v616 (landed pk c))))
      ⊢ wp frame (wpE (defs₀ (F := F)) 𝒱₀ c none) Set.univ (onBufs k0_part23 v2 v616) Kt := by
  unfold onBufs
  simp only [k0_part23_eq_skeleton]; unfold k0_part23_skel
  simp only [semSignalWord, semWaitWord, Prog.lift, Prog.bind_op, Prog.bind_ret, Prog.pure_eq_ret]
  iintro ⟨#HR, HS, Hk⟩
  iapply (step_recv pk K c 13 _ rfl) $$ [HS]
  · isplitr; · iexact HR
    iexact HS
  iintro HS
  iapply (step_recv pk K c 14 _ rfl) $$ [HS]
  · isplitr; · iexact HR
    iexact HS
  iintro HS
  iapply (step_recv pk K c 15 _ rfl) $$ [HS]
  · isplitr; · iexact HR
    iexact HS
  iintro HS
  ihave HE := (show stC pk c ((15 : Fin 16).val + 1) ⊢ _ from stC_end pk c) $$ HS
  icases HE with ⟨H7, HZ, HO⟩
  iapply (wp_load 𝒱₀ (c : Thread nD τ) none Set.univ (m := rcvM) (Finset.subset_univ _)) $$ H7; iintro H7
  rw [read_rcv]
  rw [wp_ret]; imodintro
  iapply Hk
  isplitl [H7]; · iexact H7
  isplitl [HZ]; · iexact HZ
  iexact HO

set_option maxHeartbeats 1600000 in
theorem part24_spec (f5 : (cc0_stg5_0 : Ref sig .tc).ty.Contents (Elt F)) (v759 : FVec F S64x1024 .f32) (Kt : PUnit.{1} → sProp 𝕄) :
    iprop(records pk K ∗ stD pk c 0 ∗ held c cc0_stg5_0 f5 ∗ ((stD pk c 3 ∗ held c cc0_stg5_0 v759) -∗ Kt ⟨⟩))
      ⊢ wp frame (wpE (defs₀ (F := F)) 𝒱₀ c none) Set.univ (onBufs k0_part24 c v759) Kt := by
  unfold onBufs
  simp only [k0_part24_eq_skeleton]; unfold k0_part24_skel
  simp only [semSignalWord, semWaitWord, Prog.lift, Prog.bind_op, Prog.bind_ret, Prog.pure_eq_ret]
  iintro ⟨#HR, HS, H5, Hk⟩
  iapply (wp_load 𝒱₀ (c : Thread nD τ) none Set.univ (m := outM) (Finset.subset_univ _)) $$ H5; iintro H5
  iapply (wp_store 𝒱₀ (c : Thread nD τ) none Set.univ (m := outM) (r := Rect.unit (s := S64x1024) ![0, 0] S64x1024.size inb_S64x1024_S64x1024_0_0) (Mk := Finset.univ) (Finset.subset_univ _)) $$ H5; iintro H5
  rw [write_out]
  iapply (step_left pk K c 0 _ rfl) $$ [HS]
  · isplitr; · iexact HR
    iexact HS
  iintro HS
  iapply (step_left pk K c 1 _ rfl) $$ [HS]
  · isplitr; · iexact HR
    iexact HS
  iintro HS
  iapply (step_left pk K c 2 _ rfl) $$ [HS]
  · isplitr; · iexact HR
    iexact HS
  iintro HS
  rw [wp_ret]; imodintro
  iapply Hk
  isplitl [HS]; · iexact HS
  iexact H5

set_option maxHeartbeats 1600000 in
theorem part25_spec (Kt : PUnit.{1} → sProp 𝕄) :
    iprop(records pk K ∗ stD pk c 3 ∗ (stD pk c 7 -∗ Kt ⟨⟩))
      ⊢ wp frame (wpE (defs₀ (F := F)) 𝒱₀ c none) Set.univ (onBufs k0_part25 c) Kt := by
  unfold onBufs
  simp only [k0_part25_eq_skeleton]; unfold k0_part25_skel
  simp only [semSignalWord, semWaitWord, Prog.lift, Prog.bind_op, Prog.bind_ret, Prog.pure_eq_ret]
  iintro ⟨#HR, HS, Hk⟩
  iapply (step_left pk K c 3 _ rfl) $$ [HS]
  · isplitr; · iexact HR
    iexact HS
  iintro HS
  iapply (step_left pk K c 4 _ rfl) $$ [HS]
  · isplitr; · iexact HR
    iexact HS
  iintro HS
  iapply (step_left pk K c 5 _ rfl) $$ [HS]
  · isplitr; · iexact HR
    iexact HS
  iintro HS
  iapply (step_left pk K c 6 _ rfl) $$ [HS]
  · isplitr; · iexact HR
    iexact HS
  iintro HS
  rw [wp_ret]; imodintro
  iapply Hk
  iexact HS

set_option maxHeartbeats 1600000 in
theorem part26_spec (Kt : PUnit.{1} → sProp 𝕄) :
    iprop(records pk K ∗ stD pk c 7 ∗ (stD pk c 11 -∗ Kt ⟨⟩))
      ⊢ wp frame (wpE (defs₀ (F := F)) 𝒱₀ c none) Set.univ (onBufs k0_part26 c) Kt := by
  unfold onBufs
  simp only [k0_part26_eq_skeleton]; unfold k0_part26_skel
  simp only [semSignalWord, semWaitWord, Prog.lift, Prog.bind_op, Prog.bind_ret, Prog.pure_eq_ret]
  iintro ⟨#HR, HS, Hk⟩
  iapply (step_left pk K c 7 _ rfl) $$ [HS]
  · isplitr; · iexact HR
    iexact HS
  iintro HS
  iapply (step_left pk K c 8 _ rfl) $$ [HS]
  · isplitr; · iexact HR
    iexact HS
  iintro HS
  iapply (step_left pk K c 9 _ rfl) $$ [HS]
  · isplitr; · iexact HR
    iexact HS
  iintro HS
  iapply (step_left pk K c 10 _ rfl) $$ [HS]
  · isplitr; · iexact HR
    iexact HS
  iintro HS
  rw [wp_ret]; imodintro
  iapply Hk
  iexact HS

set_option maxHeartbeats 1600000 in
theorem part27_spec (Kt : PUnit.{1} → sProp 𝕄) :
    iprop(records pk K ∗ stD pk c 11 ∗ (stD pk c 15 -∗ Kt ⟨⟩))
      ⊢ wp frame (wpE (defs₀ (F := F)) 𝒱₀ c none) Set.univ (onBufs k0_part27 c) Kt := by
  unfold onBufs
  simp only [k0_part27_eq_skeleton]; unfold k0_part27_skel
  simp only [semSignalWord, semWaitWord, Prog.lift, Prog.bind_op, Prog.bind_ret, Prog.pure_eq_ret]
  iintro ⟨#HR, HS, Hk⟩
  iapply (step_left pk K c 11 _ rfl) $$ [HS]
  · isplitr; · iexact HR
    iexact HS
  iintro HS
  iapply (step_left pk K c 12 _ rfl) $$ [HS]
  · isplitr; · iexact HR
    iexact HS
  iintro HS
  iapply (step_left pk K c 13 _ rfl) $$ [HS]
  · isplitr; · iexact HR
    iexact HS
  iintro HS
  iapply (step_left pk K c 14 _ rfl) $$ [HS]
  · isplitr; · iexact HR
    iexact HS
  iintro HS
  rw [wp_ret]; imodintro
  iapply Hk
  iexact HS

end Cert.Exchange
-- ==== Proof.Body.lean ====
/-
The body whole, on device `c`: from what it is started with to what it leaves.
-/
module

public import proofs.«01_k».proof.Proof.BodyRecv

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (pk : Dev nD → S16x16x1152.Idx → Elt F .bf16) (K : Dev nD × Ck → ℕ) (c : Dev nD) (I : Blocks F)

/-- The protocol's part of what a device starts from: its own barrier, the slots it will announce, the rights and duties of the copies. -/
def protoPre : sProp 𝕄 :=
  iprop((∃ W, owes (c : Thread nD τ) (O₀ c) W)
    ∗ (dutyTok ER (barCell c) 0 () ∗ cred (tallyAt (barCell c) () 1) ∗ atPos ER (barCell c) 0 ∅ 0)
    ∗ (bigSep Finset.univ fun d : Fin 16 => dutyTok ER (crCell (d : Dev nD) c) 0 ())
    ∗ preB (F := F) c ∗ preC (F := F) c ∗ posD (F := F) c)
/-- The blocks in their staging buffers. -/
def staged : sProp 𝕄 :=
  iprop(held c cc0_stg0_0 I.x ∗ held c cc0_stg1_0 I.rw ∗ held c cc0_stg2_0 I.ix ∗ held c cc0_stg3_0 I.ew ∗ held c cc0_stg4_0 I.sw)
/-- The scratch buffers at some contents. -/
def scratch : sProp 𝕄 := iprop((∃ f, held (F := F) c cc0_scratch0 f) ∗ (∃ f, held (F := F) c cc0_scratch1 f) ∗ ∃ f, held (F := F) c cc0_scratch2 f)
/-- Every semaphore of the kernel back at zero. -/
def zeros : sProp 𝕄 := iprop(semVal (barCell c) 0 ∗ zeroB (F := F) c ∗ zeroC (F := F) c ∗ zeroD (F := F) c)

set_option maxHeartbeats 4000000 in
theorem sound_body (hpk : pk c = packets c I) (f5 : (cc0_stg5_0 : Ref sig .tc).ty.Contents (Elt F)) (Kt : PUnit.{1} → sProp 𝕄) :
    iprop((records pk K ∗ protoPre (F := F) c ∗ staged c I ∗ scratch (F := F) c ∗ held c cc0_stg5_0 f5)
        ∗ ((zeros (F := F) c ∗ staged c I ∗ scratch (F := F) c ∗ held c cc0_stg5_0 (resultOf c I (landed pk c)) ∗ ∃ W, owes (c : Thread nD τ) 0 W) -∗ Kt ⟨⟩))
      ⊢ wp frame (wpE (defs₀ (F := F)) 𝒱₀ c none) Set.univ (onBufs cc0_body) Kt := by
  unfold onBufs
  simp only [cc0_body_eq_skeleton]; unfold cc0_body_skel
  unfold protoPre staged scratch
  iintro ⟨⟨#HR, ⟨HO, ⟨Ht, Hc, Hat⟩, Htk, HB, HC, HD⟩, ⟨H0, H1, H2, H3, H4⟩, ⟨⟨%f6, H6⟩, H7, ⟨%f8, H8⟩⟩, H5⟩, Hk⟩
  rw [wp_bind]
  iapply (part1_spec pk K c)
  isplitr; · iexact HR
  isplitl [HO Ht Hc Hat]
  · unfold barSt
    isplitl [Ht]; · iexact Ht
    isplitl [Hc]; · iexact Hc
    isplitl [Hat]; · iexact Hat
    iexact HO
  isplitl [H7 Htk]
  · iapply (preA_of (F := F) c)
    isplitl [H7]; · iexact H7
    iexact Htk
  iintro ⟨HS, Hzb⟩
  dsimp only
  rw [wp_bind]
  iapply (part2_spec pk K c)
  isplitr; · iexact HR
  isplitl [HS]; · iexact HS
  iintro HS
  dsimp only
  rw [wp_bind]
  iapply (part3_spec pk K c _ _ I.x I.rw)
  isplitr; · iexact HR
  isplitl [HS]; · iexact HS
  isplitl [H0]; · iexact H0
  isplitl [H1]; · iexact H1
  iintro ⟨HO, H0, H1⟩
  dsimp only
  rw [wp_bind]
  iapply (part4_spec c _ _ _ I.ix)
  isplitl [H2]; · iexact H2
  iintro H2
  dsimp only
  rw [wp_bind]
  iapply (part5_spec c I)
  dsimp only
  rw [wp_bind]
  iapply (part6_spec c I)
  dsimp only
  rw [wp_bind]
  iapply (part7_spec c I)
  isplitl [H3]; · iexact H3
  iintro H3
  dsimp only
  rw [wp_bind]
  iapply (part8_spec c I)
  isplitl [H3]; · iexact H3
  iintro H3
  dsimp only
  rw [wp_bind]
  iapply (part9_spec c I f8)
  isplitl [H8]; · iexact H8
  iintro H8
  dsimp only
  rw [wp_bind]
  iapply (part10_spec c I)
  dsimp only
  rw [wp_bind]
  iapply (part11_spec pk K c I hpk f6)
  isplitr; · iexact HR
  isplitl [HB H6 HO]
  · isplitl [HB]; · iexact HB
    isplitl [H6]; · iexact H6
    iexact HO
  isplitl [H8]; · iexact H8
  iintro ⟨HS, H8⟩
  rw [wp_bind]
  iapply (part12_spec pk K c)
  isplitr; · iexact HR
  isplitl [HS]; · iexact HS
  iintro HS
  rw [wp_bind]
  iapply (part13_spec pk K c)
  isplitr; · iexact HR
  isplitl [HS]; · iexact HS
  iintro HS
  rw [wp_bind]
  iapply (part14_spec pk K c)
  isplitr; · iexact HR
  isplitl [HS]; · iexact HS
  iintro HS
  rw [wp_bind]
  iapply (part15_spec pk K c)
  isplitr; · iexact HR
  isplitl [HS]; · iexact HS
  iintro HS
  rw [wp_bind]
  iapply (part16_spec pk K c)
  isplitr; · iexact HR
  isplitl [HS]; · iexact HS
  iintro HS
  rw [wp_bind]
  iapply (part17_spec pk K c)
  isplitr; · iexact HR
  isplitl [HS]; · iexact HS
  iintro HS
  rw [wp_bind]
  iapply (part18_spec pk K c I)
  isplitr; · iexact HR
  isplitl [HS HC]
  · isplitl [HS]; · iexact HS
    iexact HC
  isplitl [H0]; · iexact H0
  isplitl [H4]; · iexact H4
  iintro %w ⟨HS, HL, HZB, H0, H4⟩
  dsimp only
  rw [wp_bind]
  iapply (part19_spec pk K c)
  isplitr; · iexact HR
  isplitl [HS]; · iexact HS
  iintro HS
  rw [wp_bind]
  iapply (part20_spec pk K c)
  isplitr; · iexact HR
  isplitl [HS]; · iexact HS
  iintro HS
  rw [wp_bind]
  iapply (part21_spec pk K c)
  isplitr; · iexact HR
  isplitl [HS]; · iexact HS
  iintro HS
  rw [wp_bind]
  iapply (part22_spec pk K c)
  isplitr; · iexact HR
  isplitl [HS]; · iexact HS
  iintro HS
  rw [wp_bind]
  iapply (part23_spec pk K c)
  isplitr; · iexact HR
  isplitl [HS]; · iexact HS
  iintro ⟨H7, HZC, HO⟩
  ihave HS := (stD_start pk c) $$ [HL HD HO]
  · isplitl [HL]; · iexact HL
    isplitl [HD]; · iexact HD
    iexact HO
  rw [wp_bind]
  iapply (part24_spec pk K c f5)
  isplitr; · iexact HR
  isplitl [HS]; · iexact HS
  isplitl [H5]; · iexact H5
  iintro ⟨HS, H5⟩
  rw [wp_bind]
  iapply (part25_spec pk K c)
  isplitr; · iexact HR
  isplitl [HS]; · iexact HS
  iintro HS
  rw [wp_bind]
  iapply (part26_spec pk K c)
  isplitr; · iexact HR
  isplitl [HS]; · iexact HS
  iintro HS
  rw [wp_bind]
  iapply (part27_spec pk K c)
  isplitr; · iexact HR
  isplitl [HS]; · iexact HS
  iintro HS
  simp only [Prog.lift, Prog.bind_op, Prog.bind_ret, Prog.pure_eq_ret]
  iapply (step_left pk K c 15 _ rfl) $$ [HS]
  · isplitr; · iexact HR
    iexact HS
  iintro HS
  ihave HE := (show stD pk c ((15 : Fin 16).val + 1) ⊢ _ from stD_end pk c) $$ HS
  icases HE with ⟨H6, HZD, HO⟩
  rw [wp_ret]; imodintro
  iapply Hk
  unfold zeros
  isplitl [Hzb HZB HZC HZD]
  · isplitl [Hzb]; · iexact Hzb
    isplitl [HZB]; · iexact HZB
    isplitl [HZC]; · iexact HZC
    iexact HZD
  isplitl [H0 H1 H2 H3 H4]
  · isplitl [H0]; · iexact H0
    isplitl [H1]; · iexact H1
    isplitl [H2]; · iexact H2
    isplitl [H3]; · iexact H3
    iexact H4
  isplitl [H6 H7 H8]
  · isplitl [H6]; · iexists _; iexact H6
    isplitl [H7]; · iexists _; iexact H7
    iexists _; iexact H8
  isplitl [H5]; · unfold resultOf; iexact H5
  iexact HO

end Cert.Exchange
-- ==== Proof.Data.lean ====
/-
The launch: how the ghost state is made and dealt out, the run of the kernel on all sixteen devices, and what it leaves.
-/
module

public import proofs.«01_k».proof.Proof.Body
public import proofs.«01_k».proof.Proof.Gen.KernelIdeal.Points
public import proofs.«01_k».proof.Proof.Gen.KernelIdeal.Frame

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet rangeSet_univ)

variable {F : FTy → Type} [FloatOps F]

local notation "𝕄" => MT nD τ sig Unit (Elt F) ℕ UU ℕ

variable (m : (ℓ : Loc nD τ sig) → Buf (Elt F) ℓ) (ρ : Dev nD → PrngReg)

/-! ## What the devices compute, from the launch memory -/

/-- Device `c`'s blocks in the launch memory. -/
def blocksOf (c : Dev nD) : Blocks F where
  x := iblk m c 0 t0_0
  rw := iblk m c 1 t0_0
  ix := iblk m c 2 t0_0
  ew := iblk m c 3 t0_0
  sw := iblk m c 4 t0_0
def pkOf (c : Dev nD) : S16x16x1152.Idx → Elt F .bf16 := packets c (blocksOf m c)
def outOf (c : Dev nD) : FVec F S64x1024 .f32 := resultOf c (blocksOf m c) (landed (pkOf m) c)

/-! ## The pipeline's proof data -/

omit [FloatOps F] in
/-- Cells of one device, family by family. -/
theorem bigSep_Ck (Φ : Ck → sProp 𝕄) : bigSep Finset.univ Φ
    = iprop(Φ none ∗ (bigSep Finset.univ fun k => Φ (some (0, k))) ∗ (bigSep Finset.univ fun k => Φ (some (1, k))) ∗ bigSep Finset.univ fun k => Φ (some (2, k))) := by
  rw [bigSep_univ_equiv (Equiv.optionEquivSumPUnit.{0, 0} (Fin 3 × Fin 16)).symm, bigSep_univ_sum]
  rw [bigSep_univ_prod, bigSep_univ_eq_bigSepL [(0 : Fin 3), 1, 2] (by decide) (by decide),
    show (Finset.univ : Finset PUnit.{1}) = {⟨⟩} from rfl, bigSep_singleton]
  exact (Std.Commutative.comm (op := BI.sep) _ _)

/-- What stays with device `c`: its positions, and the duties it pays. -/
def payToks (c : Dev nD) : sProp 𝕄 :=
  iprop(dutyTok ER (barCell c) 0 () ∗ (bigSep Finset.univ fun d : Fin 16 => dutyTok ER (crCell (d : Dev nD) c) 0 ())
    ∗ (bigSep Finset.univ fun d : Fin 16 => dutyTok ER (sdCell c d) 0 ()) ∗ bigSep Finset.univ fun d : Fin 16 => dutyTok ER (rvCell (d : Dev nD) c) 0 ())
def linear (c : Dev nD) : sProp 𝕄 := iprop((bigSep Finset.univ fun k : Ck => atPos ER (kcell (c, k)) 0 ∅ 0) ∗ payToks (F := F) c)
/-- The credits of what others owe it. -/
def creds (c : Dev nD) : sProp 𝕄 :=
  iprop(cred (tallyAt (barCell c) () 1) ∗ (bigSep Finset.univ fun d : Fin 16 => cred (tallyAt (crCell c d) () 1)) ∗ bigSep Finset.univ fun s : Fin 16 => cred (tallyAt (rvCell c s) () N))

def start (c : Dev nD) : sProp 𝕄 := iprop((∃ K, records (pkOf m) K ∗ linear (F := F) c) ∗ creds (F := F) c)
def Φ₀ (c : Dev nD) : sProp 𝕄 := iprop(start m c ∗ scratch (F := F) c)
def Φ₁ (c : Dev nD) : sProp 𝕄 := iprop(zeros (F := F) c ∗ scratch (F := F) c)

theorem start_proto (c : Dev nD) : iprop(linear (F := F) c ∗ creds (F := F) c ∗ ∃ W, owes (c : Thread nD τ) (O₀ c) W) ⊢ protoPre (F := F) c := by
  unfold linear creds payToks protoPre preB preC holdC posD
  rw [bigSep_Ck]
  simp only [bigSep_sep']
  iintro ⟨⟨⟨Ha, Hcr, Hsd, Hrv⟩, Ht, Htcr, Htsd, Htrv⟩, ⟨Hcb, Hccr, Hcrv⟩, HO⟩
  isplitl [HO]; · iexact HO
  isplitl [Ha Ht Hcb]
  · isplitl [Ht]; · iexact Ht
    isplitl [Hcb]; · iexact Hcb
    iexact Ha
  isplitl [Htcr]; · iexact Htcr
  isplitl [Hcr Hccr Htsd Htrv]
  · isplitl [Hcr Hccr]
    · isplitl [Hccr]; · iexact Hccr
      iexact Hcr
    isplitl [Htsd]; · iexact Htsd
    iexact Htrv
  isplitl [Hrv Hcrv]
  · isplitl [Hcrv]; · iexact Hcrv
    iexact Hrv
  iexact Hsd

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (blocksOf m c).x
    | ⟨1, _⟩ => (blocksOf m c).rw
    | ⟨2, _⟩ => (blocksOf m c).ix
    | ⟨3, _⟩ => (blocksOf m c).ew
    | ⟨4, _⟩ => (blocksOf m c).sw
    | ⟨5, _⟩ => outOf m c
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_x (c : Dev nD) (d) : (dats m ρ 0 c).before (0 : Fin 6) t0_0 d = (blocksOf m c).x := by
  unfold Dat.before; rw [if_pos (fetch0_0 t0_0)]
  rfl
theorem before_rw (c : Dev nD) (d) : (dats m ρ 0 c).before (1 : Fin 6) t0_0 d = (blocksOf m c).rw := by
  unfold Dat.before; rw [if_pos (fetch0_1 t0_0)]
  rfl
theorem before_ix (c : Dev nD) (d) : (dats m ρ 0 c).before (2 : Fin 6) t0_0 d = (blocksOf m c).ix := by
  unfold Dat.before; rw [if_pos (fetch0_2 t0_0)]
  rfl
theorem before_ew (c : Dev nD) (d) : (dats m ρ 0 c).before (3 : Fin 6) t0_0 d = (blocksOf m c).ew := by
  unfold Dat.before; rw [if_pos (fetch0_3 t0_0)]
  rfl
theorem before_sw (c : Dev nD) (d) : (dats m ρ 0 c).before (4 : Fin 6) t0_0 d = (blocksOf m c).sw := by
  unfold Dat.before; rw [if_pos (fetch0_4 t0_0)]
  rfl

def bodyPost (c : Dev nD) : sProp 𝕄 :=
  iprop(Φ₁ (F := F) c ∗ (dats m ρ 0 c).owesAt () t0_0.succ ∗ stg c cc0_stg0_0 (blocksOf m c).x ∗ stg c cc0_stg1_0 (blocksOf m c).rw
    ∗ stg c cc0_stg2_0 (blocksOf m c).ix ∗ stg c cc0_stg3_0 (blocksOf m c).ew ∗ stg c cc0_stg4_0 (blocksOf m c).sw ∗ stg c cc0_stg5_0 (outOf m c))
def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

omit [FloatOps F] in
theorem bigSep_W (Φ : Fin cfg0.W → sProp 𝕄) : bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

set_option maxHeartbeats 1600000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  show bodyPre m ρ c ⊢ wp frame (wpE (defs₀ (F := F)) 𝒱₀ c none) Set.univ (onBufs cc0_body) (fun _ => bodyPost m ρ c)
  unfold bodyPre Φ₀ start
  iintro ⟨⟨⟨⟨%K, #HR, HL⟩, HC⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [before_x] at h0
  rw [before_rw] at h1
  rw [before_ix] at h2
  rw [before_ew] at h3
  rw [before_sw] at h4
  subst h0 h1 h2 h3 h4
  unfold Dat.owesAt Pipeline.owesWithin
  icases Ho with ⟨%W, %hW, HO⟩
  rw [show (dats m ρ 0 c).owed t0_0.castSucc = O₀ c from rfl]
  iapply (sound_body (pkOf m) K c (blocksOf m c) rfl g5 (fun _ => bodyPost m ρ c))
  isplitl
  · isplitr; · iexact HR
    isplitl [HL HC HO]
    · iapply (start_proto (F := F) c)
      isplitl [HL]; · iexact HL
      isplitl [HC]; · iexact HC
      iexists W; iexact HO
    isplitl [H0 H1 H2 H3 H4]
    · unfold staged
      isplitl [H0]; · iexact H0
      isplitl [H1]; · iexact H1
      isplitl [H2]; · iexact H2
      isplitl [H3]; · iexact H3
      iexact H4
    isplitl [Hscr]; · iexact Hscr
    iexact H5
  unfold staged bodyPost Φ₁ Dat.owesAt Pipeline.owesWithin
  iintro ⟨HZ, ⟨H0, H1, H2, H3, H4⟩, Hscr, H5, ⟨%W', HO⟩⟩
  rw [show (dats m ρ 0 c).owed t0_0.succ = 0 from rfl]
  isplitl [HZ Hscr]
  · isplitl [HZ]; · iexact HZ
    iexact Hscr
  isplitl [HO]
  · iexists W'
    isplitr; · ipureintro; exact fun _ _ => Or.inl trivial
    iexact HO
  isplitl [H0]; · iexists _; isplitr; · (ipureintro; rfl)
                  iexact H0
  isplitl [H1]; · iexists _; isplitr; · (ipureintro; rfl)
                  iexact H1
  isplitl [H2]; · iexists _; isplitr; · (ipureintro; rfl)
                  iexact H2
  isplitl [H3]; · iexists _; isplitr; · (ipureintro; rfl)
                  iexact H3
  isplitl [H4]; · iexists _; isplitr; · (ipureintro; rfl)
                  iexact H4
  iexists _; isplitr; · (ipureintro; rfl)
  iexact H5

end Cert.Exchange
-- ==== Proof.Run.lean ====
/-
The launch: how the ghost state is made and dealt out; and the run of the kernel on all sixteen devices.
-/
module

public import proofs.«01_k».proof.Proof.Data
public import Idealize.ShloMosaic.Lib.Pipeline.CollectiveSegs

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Ring (rangeSet rangeSet_univ)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec famSem := by decide +kernel

theorem share_eq (c : Dev nD) (w : Fin cfg0.W) : (dats m ρ 0 c).share w = fullShare := by unfold Dat.share; split <;> rfl

/-! ## The launch element -/

def exCells : Finset (GSem nD τ sig) := Finset.univ.map ⟨kcell, kcell_injective⟩
/-- Each cell's one duty. -/
abbrev tokOf (ck : Dev nD × Ck) : GSem nD τ sig × ℕ × Unit := (kcell ck, 0, ())
theorem tokOf_injective : Function.Injective tokOf := fun a b h => kcell_injective (congrArg Prod.fst h)
def exToks : Finset (GSem nD τ sig × ℕ × Unit) := Finset.univ.map ⟨tokOf, tokOf_injective⟩

def u₀ : UU := (initOf (Pipeline.cells cfgs cellOf_inj) (Pipeline.launchToks cfgs cellOf_inj), initOf exCells exToks)

/-- The duty tokens of device `c`'s own cells. -/
def toks (c : Dev nD) : sProp 𝕄 := bigSep Finset.univ fun k : Ck => dutyTok ER (kcell (c, k)) 0 ()

/-- What the launch element deals device `c`. -/
def G (c : Dev nD) : sProp 𝕄 :=
  iprop((bigSep Finset.univ fun k : Ck => roundState ER (Rd (pkOf m)) (kcell (c, k)) 0)
    ∗ (bigSep Finset.univ fun k : Ck => iprop(atPos ER (kcell (c, k)) 0 ∅ 0 ∗ reached ER (kcell (c, k)) 0)) ∗ toks (F := F) c)

/-- The records short of the order of waiting. -/
def invs (K : Dev nD × Ck → ℕ) : sProp 𝕄 :=
  iprop((bigSep Finset.univ fun ck : Dev nD × Ck => cellInv ER (Rd (pkOf m)) (K ck) (kcell ck))
    ∗ bigSep Finset.univ fun ck : Dev nD × Ck => reached ER (kcell ck) 0)
instance invs_persistent (K : Dev nD × Ck → ℕ) : BI.Persistent (invs m K) := by unfold invs; infer_instance

/-- What the global step makes of it. -/
def G' (c : Dev nD) : sProp 𝕄 := iprop(∃ K, invs m K ∗ linear (F := F) c)

theorem fund : BI.own (ER (initOf exCells exToks)) ⊢ (|==> bigSep Finset.univ (G m) : sProp 𝕄) := by
  have hX (Φ : GSem nD τ sig → sProp 𝕄) : bigSep exCells Φ = bigSep Finset.univ fun c : Dev nD => bigSep Finset.univ fun k : Ck => Φ (kcell (c, k)) := by
    unfold exCells; rw [bigSep_map, bigSep_univ_prod]; rfl
  have hT : bigSep exToks (fun x => (dutyTok ER x.1 x.2.1 x.2.2 : sProp 𝕄)) = bigSep Finset.univ fun c : Dev nD => toks (F := F) c := by
    unfold exToks toks; rw [bigSep_map, bigSep_univ_prod]; rfl
  iintro HX
  imod (Rounds.fund ER (Rd (pkOf m)) exCells exToks) $$ HX with ⟨Hst, Hr, Hat, Htok⟩
  imodintro
  ihave Hst' := (Entails.of_eq (hX fun g => roundState ER (Rd (pkOf m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero -/

omit [FloatOps F] in
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) famSem c ∗ unscopedSems0 c)
      = (bigSep Finset.univ fun k : Ck => semVal (kcell (c, k)) 0 : sProp 𝕄) := by
  rw [unscopedSems0_eq]
  unfold Pipeline.ownSems0
  rw [bigSep_univ_equiv (Equiv.optionEquivSumPUnit.{0, 0} (Fin 3 × Fin 16)).symm, bigSep_univ_sum,
    show (Finset.univ : Finset PUnit.{1}) = {⟨⟩} from rfl, bigSep_singleton]
  rfl

theorem core_alloc (c : Dev nD) :
    iprop(Pipeline.ownSems0 (Ix := Unit) (Name := ℕ) (U := UU) (Lvl := ℕ) (Val := Elt F) (τ := τ) famSem c ∗ unscopedSems0 c ∗ G m c)
      ⊢ |={Set.univ}=> iprop((bigSep Finset.univ fun k => iprop(∃ κ : ℕ, cellInv ER (Rd (pkOf m)) κ (kcell (c, k))))
          ∗ (bigSep Finset.univ fun k => iprop(atPos ER (kcell (c, k)) 0 ∅ 0 ∗ reached ER (kcell (c, k)) 0)) ∗ toks (F := F) c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun k : Ck => semVal (kcell (c, k)) 0) ∗ bigSep Finset.univ fun k : Ck => roundState ER (Rd (pkOf m)) (kcell (c, k)) 0)
      ⊢ (|={Set.univ}=> bigSep Finset.univ fun k => iprop(∃ κ : ℕ, cellInv ER (Rd (pkOf m)) κ (kcell (c, k))) : sProp 𝕄) from by
        rw [← bigSep_sep']
        exact (bigSep_mono fun k _ => (Rounds.body_intro ER (Rd (pkOf m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## Dealing the duties out -/

omit [FloatOps F] in
/-- A family of cells swapped between the device that has the cell and the device it is named after. -/
theorem swap (Φ : Dev nD → Fin 16 → sProp 𝕄) :
    (bigSep Finset.univ fun c : Dev nD => bigSep Finset.univ fun k : Fin 16 => Φ c k)
      = bigSep Finset.univ fun c : Dev nD => bigSep Finset.univ fun d : Fin 16 => Φ (d : Dev nD) (c : Fin 16) :=
  Pipeline.bigSep_univ_comm (fun (c : Dev nD) (k : Fin 16) => Φ c k)

omit [FloatOps F] in
theorem toks_around : (bigSep Finset.univ fun c : Dev nD => (toks c : sProp 𝕄)) ⊢ bigSep Finset.univ fun c : Dev nD => payToks c := by
  unfold toks payToks
  simp only [bigSep_Ck]
  rw [bigSep_sep', bigSep_sep', bigSep_sep', bigSep_sep', bigSep_sep', bigSep_sep',
    swap (fun c k => (dutyTok ER (kcell (c, some (0, k))) 0 () : sProp 𝕄)),
    swap (fun c k => (dutyTok ER (kcell (c, some (2, k))) 0 () : sProp 𝕄))]
  exact Entails.refl _

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (pkOf m)) κ (kcell (c, k))))
          ∗ (bigSep Finset.univ fun k => iprop(atPos ER (kcell (c, k)) 0 ∅ 0 ∗ reached ER (kcell (c, k)) 0)) ∗ toks (F := F) c) : sProp 𝕄)
      ⊢ bigSep Finset.univ (G' m) := by
  rw [bigSep_sep', bigSep_sep', ← bigSep_univ_prod (fun ck : Dev nD × Ck => iprop(∃ κ : ℕ, cellInv ER (Rd (pkOf m)) κ (kcell ck))),
    bigSep_congr (s := Finset.univ) (fun (c : Dev nD) _ => bigSep_sep' Finset.univ (fun k : Ck => (atPos ER (kcell (c, k)) 0 ∅ 0 : sProp 𝕄)) (fun k => reached ER (kcell (c, k)) 0)),
    bigSep_sep', ← bigSep_univ_prod (fun ck : Dev nD × Ck => (reached ER (kcell ck) 0 : sProp 𝕄))]
  iintro ⟨HI, ⟨Hat, #HR⟩, Htok⟩
  ihave HK := (BI.bigSep_exists_pi Finset.univ (fun (ck : Dev nD × Ck) (κ : ℕ) => (cellInv ER (Rd (pkOf m)) κ (kcell ck) : sProp 𝕄))) $$ HI
  icases HK with ⟨%K, #HI⟩
  ihave Htk := (toks_around (F := F)) $$ Htok
  iapply (bigSep_with_persistent (R := invs m K) (Φ := linear (F := F)) fun c _ => show iprop(invs m K ∗ linear (F := F) c) ⊢ G' m c from by
    unfold G'; iintro H; iexists K; iexact H)
  isplitr
  · unfold invs; isplitl; · iexact HI
    iexact HR
  · unfold linear; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) famSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem kcell_eq {a b : Dev nD} {x y : Ck} : Iff (kcell (a, x) = kcell (b, y)) (a = b ∧ x = y) :=
  ⟨fun h => by have := kcell_injective h; exact ⟨congrArg Prod.fst this, congrArg Prod.snd this⟩, fun ⟨h, h'⟩ => by rw [h, h']⟩

/-- What a sum of sixteen tallies, one at each device's cell of one family, has at one cell. -/
theorem sum_tally (d c : Dev nD) (x y : Ck) (n : ℕ) :
    (∑ e ∈ rangeSet 16 0 16, (tallyAt (kcell ((e : Dev nD), x)) () n : CellTallies nD τ sig Unit)) (kcell (c, y)) () = if y = x then n else 0 := by
  rw [show rangeSet 16 0 16 = Finset.univ from by ext b; rw [Ring.mem_rangeSet]; simp, Finset.sum_apply, Finsupp.finset_sum_apply]
  simp only [tallyAt_apply, kcell_eq, and_true]
  by_cases h : y = x
  · rw [if_pos h, Finset.sum_eq_single_of_mem (c : Fin 16) (Finset.mem_univ _) (fun b _ hb => if_neg fun h' => hb h'.1.symm), if_pos ⟨rfl, h⟩]
  · rw [if_neg h]; exact Finset.sum_eq_zero fun b _ => if_neg fun h' => h h'.2

/-- What device `d` owes a cell of device `c`. -/
theorem owed_at (d c : Dev nD) (y : Ck) : O₀ d (kcell (c, y)) ()
    = ((if y = some (0, (d : Fin 16)) then 1 else 0) + (if y = some (2, (d : Fin 16)) then N else 0)) + (if c = d ∧ y = none then 1 else 0) := by
  have h1 : OCr d 0 (kcell (c, y)) () = _ := sum_tally d c (some (0, (d : Fin 16))) y 1
  have h2 : ORv d 0 (kcell (c, y)) () = _ := sum_tally d c (some (2, (d : Fin 16))) y N
  have h3 : (tallyAt (barCell d) () 1 : CellTallies nD τ sig Unit) (kcell (c, y)) () = if c = d ∧ y = none then 1 else 0 := by
    rw [show barCell d = kcell (d, none) from rfl, tallyAt_apply]; simp only [kcell_eq, and_true]
  unfold O₀
  rw [Pi.add_apply, Finsupp.add_apply, Pi.add_apply, Finsupp.add_apply, h1, h2, h3]

theorem launch_at (c : Dev nD) (y : Ck) (n : ℕ)
    (h : ∑ d : Dev nD, (((if y = some (0, (d : Fin 16)) then 1 else 0) + (if y = some (2, (d : Fin 16)) then N else 0)) + (if c = d ∧ y = none then 1 else 0)) = n) :
    tallyOn (kcell (c, y)) (launchCredit (Pipeline.owing O₀) 0 (kcell (c, y))) = (tallyAt (kcell (c, y)) () n : CellTallies nD τ sig Unit) := by
  unfold tallyAt; refine congrArg _ (Finsupp.ext fun u => ?_); cases u
  rw [Pipeline.launchCredit_owing, Finsupp.single_eq_same, Finset.sum_congr rfl fun d _ => owed_at d c y, h]

theorem launch_bar (c : Dev nD) : tallyOn (kcell (c, none)) (launchCredit (Pipeline.owing O₀) 0 (kcell (c, none))) = (tallyAt (kcell (c, none)) () 1 : CellTallies nD τ sig Unit) :=
  launch_at c none 1 (by simp)
theorem launch_cr (c : Dev nD) (k : Fin 16) :
    tallyOn (kcell (c, some (0, k))) (launchCredit (Pipeline.owing O₀) 0 (kcell (c, some (0, k)))) = (tallyAt (kcell (c, some (0, k))) () 1 : CellTallies nD τ sig Unit) :=
  launch_at c _ 1 (by simp)
theorem launch_rv (c : Dev nD) (k : Fin 16) :
    tallyOn (kcell (c, some (2, k))) (launchCredit (Pipeline.owing O₀) 0 (kcell (c, some (2, k)))) = (tallyAt (kcell (c, some (2, k))) () N : CellTallies nD τ sig Unit) :=
  launch_at c _ N (by simp)

theorem creds_intro (c : Dev nD) : (Pipeline.launchCred O₀ c : sProp 𝕄) ⊢ creds (F := F) c := by
  unfold Pipeline.launchCred
  refine (bigSep_subset (Finset.subset_univ (Finset.univ.map ⟨csem, csem_injective⟩))).trans ?_
  rw [bigSep_map, bigSep_Ck]
  show iprop(cred (tallyOn (kcell (c, none)) (launchCredit (Pipeline.owing O₀) 0 (kcell (c, none))))
    ∗ (bigSep Finset.univ fun k : Fin 16 => cred (tallyOn (kcell (c, some (0, k))) (launchCredit (Pipeline.owing O₀) 0 (kcell (c, some (0, k))))))
    ∗ (bigSep Finset.univ fun k : Fin 16 => cred (tallyOn (kcell (c, some (1, k))) (launchCredit (Pipeline.owing O₀) 0 (kcell (c, some (1, k))))))
    ∗ (bigSep Finset.univ fun k : Fin 16 => cred (tallyOn (kcell (c, some (2, k))) (launchCredit (Pipeline.owing O₀) 0 (kcell (c, some (2, k))))))) ⊢ _
  simp only [launch_bar, launch_cr, launch_rv]
  iintro ⟨H1, H2, -, H3⟩
  unfold creds
  isplitl [H1]; · iexact H1
  isplitl [H2]; · iexact H2
  iexact H3

/-! ## Side conditions of the run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G' invs records
  icases HG with ⟨%K, ⟨HI, HR⟩, HL⟩
  isplitl
  · isplitl [HI HR HL Hlev]
    · iexists K
      isplitl [HI HR Hlev]
      · isplitl [HI]; · iexact HI
        isplitl [HR]; · iexact HR
        iexact Hlev
      iexact HL
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 famSem c ∗ Pipeline.scopedRest cfg0.spec c) := by
  rw [show (dats m ρ 0 c).Φ (Fin.last cfg0.N) = Φ₁ (F := F) c from rfl, scopedRest0_eq]
  have hz : zeros (F := F) c ⊢ iprop(Pipeline.ownSems0 (Ix := Unit) (Name := ℕ) (U := UU) (Lvl := ℕ) (Val := Elt F) (τ := τ) famSem c ∗ unscopedSems0 c) := by
    rw [sems0_eq, bigSep_Ck]
    unfold zeros zeroB zeroC zeroD
    iintro ⟨H1, H2, H3, H4⟩
    isplitl [H1]; · iexact H1
    isplitl [H2]; · iexact H2
    isplitl [H4]; · iexact H4
    iexact H3
  unfold Φ₁ scratch
  iintro ⟨Hz, Hr⟩
  ihave Hz' := hz $$ Hz
  icases Hz' with ⟨Ho, Hu⟩
  isplitl [Hu]; · iexact Hu
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every weakly fair execution of the sixteen kernels terminates, with each device's
    arrays as computed and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange
-- ==== Proof.Frames.lean ====
/-
The arrays after the run, and the frames: every program runs, leaves its arguments and ends with all counters at zero.
-/
module

public import proofs.«01_k».proof.Defs
public import proofs.«01_k».proof.Proof.Run
public import proofs.«01_k».proof.Proof.Gen.Kernel
public import proofs.«01_k».proof.Proof.Gen.ReferenceIdeal.Run
public import Idealize.ShloMosaic.Adequacy
public import Idealize.ShloMosaic.Init

@[expose] public section

set_option maxRecDepth 65536

noncomputable section

namespace Cert.Exchange

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (rangeSet rangeSet_univ)

variable {F : FTy → Type} [FloatOps F]

local notation "𝕄" => MT nD τ sig Unit (Elt F) ℕ UU ℕ

variable (m : (ℓ : Loc nD τ sig) → Buf (Elt F) ℓ) (ρ : Dev nD → PrngReg)

/-- A window that is an input holds what it held. -/
theorem finalA_in (c : Dev nD) (w : Fin cfg0.W) (hw : (cfg0.win w).isOut = false) :
    finalA m ρ c w = (s₀ m ρ).mem ((cfg0.win w).arr.view.loc (c : Thread nD τ)) :=
  (dats (F := F) m ρ 0 c).arrAt_in w hw _

/-- The result's one block is what the body left. -/
theorem finalA_out (c : Dev nD) : (win0_5.blk t0_0).view.read (Elt F) (finalA m ρ c (5 : Fin 6)) = outOf m c := by
  unfold finalA
  rw [show cfg0.N = (t0_0 : Fin cfg0.N).val + 1 from rfl, (dats m ρ 0 c).arrAt_succ (5 : Fin 6) t0_0]
  rw [show (cfg0.win (5 : Fin 6)).flush t0_0 = true from flush0_5 t0_0, if_pos rfl]
  exact View.read_write_univ _ _

/-- The argument arrays after the run. -/
theorem args_kept {r : PUnit × MemSt nD τ sig (Elt F)} (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c (0 : Fin 6)).trans (finalA_in m ρ c (0 : Fin 6) rfl), (h c (1 : Fin 6)).trans (finalA_in m ρ c (1 : Fin 6) rfl),
    (h c (2 : Fin 6)).trans (finalA_in m ρ c (2 : Fin 6) rfl), (h c (3 : Fin 6)).trans (finalA_in m ρ c (3 : Fin 6) rfl),
    (h c (4 : Fin 6)).trans (finalA_in m ρ c (4 : Fin 6) rfl)⟩

theorem frame_kernelIdeal : Cert.quiescent_KernelIdeal := fun m ρ _ =>
  (θ_run Cert.KernelIdeal.defs _ _).mono (fun _ h => ⟨args_kept m ρ h.1, h.2⟩) (run_main (F := Ideal) m ρ)

/-- The kernel as printed for the reals is the kernel as written: the same text, twice. -/
theorem defs₀_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
theorem defs_same : Cert.Kernel.defs (F := Bits) = Cert.KernelIdeal.defs (F := Bits) :=
  congrArg (Pipeline.defs (Cert.KernelIdeal.pcfgs (F := Bits))) defs₀_same

theorem frame_kernel : Cert.quiescent_Kernel := fun m ρ _ =>
  (congrArg (fun D => θ_run D (onTc (τ := τ) (Cert.KernelIdeal.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0)) defs_same).mpr
    ((θ_run Cert.KernelIdeal.defs _ _).mono (fun _ h => ⟨args_kept m ρ h.1, h.2⟩) (run_main (F := Bits) m ρ))

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange
-- ==== Proof.Counts.lean ====
module

public import proofs.«01_k».proof.Proof.Values
public import Idealize.ShloMosaic.Lib.Pointwise

/-!
# Counting and one-hot sums over the extended reals

The kernel ranks tokens by summing products of zeros and ones, and picks a row by summing it
against a column with a single one. Both are exact over the extended reals: the first is a count,
the second is the picked value itself, because `0 * a = 0` for every `a`.
-/

@[expose] public section

set_option maxRecDepth 16384

noncomputable section

namespace Cert.Exchange

open Idealize.ShloMosaic

/-- Naturals are told apart, and ordered, as extended reals. -/
theorem nat_inj (a b : ℕ) : ((a : ℕ) : EReal) = ((b : ℕ) : EReal) ↔ a = b := by
  constructor
  · intro h
    have h1 : ((a : ℝ) : EReal) = ((b : ℝ) : EReal) := h
    exact_mod_cast h1
  · rintro rfl; rfl
theorem nat_le (a b : ℕ) : ((a : ℕ) : EReal) ≤ ((b : ℕ) : EReal) ↔ a ≤ b := by
  have h : ((a : ℝ) : EReal) ≤ ((b : ℝ) : EReal) ↔ a ≤ b := by
    rw [EReal.coe_le_coe_iff, Nat.cast_le]
  exact h

/-- A sum of zeros and ones is the count of the ones. -/
theorem sum_count (p : ℕ → Prop) [DecidablePred p] (n : ℕ) :
    (∑ k : Fin n, (if p k then (1 : EReal) else 0)) = ((Nat.count p n : ℕ) : EReal) := by
  induction n with
  | zero => simp
  | succ n ih =>
    rw [Fin.sum_univ_castSucc, Nat.count_succ, Nat.cast_add]
    simp only [Fin.val_castSucc, Fin.val_last]
    rw [ih]
    split_ifs <;> simp

/-- Counting below a bound inside a longer range. -/
theorem count_below (p : ℕ → Prop) [DecidablePred p] (i n : ℕ) (h : i < n) :
    Nat.count (fun k => k ≤ i ∧ p k) n = Nat.count p (i + 1) := by
  rw [Nat.count_eq_card_filter_range, Nat.count_eq_card_filter_range]
  congr 1
  ext k
  simp only [Finset.mem_filter, Finset.mem_range]
  constructor
  · rintro ⟨_, h1, h2⟩; exact ⟨by omega, h2⟩
  · rintro ⟨h1, h2⟩; exact ⟨by omega, by omega, h2⟩

/-- A row of the lower triangle against a column of zeros and ones counts the ones so far. -/
theorem sum_lower (p : ℕ → Prop) [DecidablePred p] (i n : ℕ) (h : i < n) :
    (∑ k : Fin n, (if (k : ℕ) ≤ i then (1 : EReal) else 0) * (if p k then (1 : EReal) else 0))
      = ((Nat.count p (i + 1) : ℕ) : EReal) := by
  rw [← count_below p i n h, ← sum_count]
  refine Finset.sum_congr rfl fun k _ => ?_
  by_cases h1 : (k : ℕ) ≤ i <;> by_cases h2 : p k <;> simp [h1, h2]

/-- The same with the factors swapped. -/
theorem sum_lower' (p : ℕ → Prop) [DecidablePred p] (i n : ℕ) (h : i < n) :
    (∑ k : Fin n, (if p k then (1 : EReal) else 0) * (if (k : ℕ) ≤ i then (1 : EReal) else 0))
      = ((Nat.count p (i + 1) : ℕ) : EReal) := by
  rw [← sum_lower p i n h]
  exact Finset.sum_congr rfl fun k _ => mul_comm _ _

/-- A column with one one picks the value there. -/
theorem sum_pick {ι : Type} [Fintype ι] (P : ι → Prop) [DecidablePred P] (f : ι → EReal) (k0 : ι)
    (h : ∀ k, P k ↔ k = k0) :
    (∑ k, (if P k then (1 : EReal) else 0) * f k) = f k0 := by
  rw [Finset.sum_eq_single k0]
  · rw [if_pos ((h k0).mpr rfl), one_mul]
  · intro k _ hk
    rw [if_neg (fun hP => hk ((h k).mp hP)), zero_mul]
  · intro hk; exact absurd (Finset.mem_univ k0) hk

/-- A column of zeros gives nothing. -/
theorem sum_none {ι : Type} [Fintype ι] (P : ι → Prop) [DecidablePred P] (f : ι → EReal)
    (h : ∀ k, ¬ P k) :
    (∑ k, (if P k then (1 : EReal) else 0) * f k) = 0 := by
  refine Finset.sum_eq_zero fun k _ => ?_
  rw [if_neg (h k), zero_mul]

/-- A choice made with the value, rather than with a factor. -/
theorem sum_choose {ι : Type} [Fintype ι] (P : ι → Prop) [DecidablePred P] (f : ι → EReal) (k0 : ι)
    (h : ∀ k, P k ↔ k = k0) :
    (∑ k, (if P k then f k else 0)) = f k0 := by
  rw [← sum_pick P f k0 h]
  refine Finset.sum_congr rfl fun k _ => ?_
  split_ifs <;> simp

/-- Widening one bit and reading it as a float gives zero or one. -/
theorem bit_float (φ : FTy) (b : BitVec 1) :
    (FloatOps.sitofp φ (BitVec.setWidth 32 b) : Ideal φ) = if b = 1#1 then 1 else 0 := by
  have hb : b = 0#1 ∨ b = 1#1 := by
    have : ∀ b : BitVec 1, b = 0#1 ∨ b = 1#1 := by decide
    exact this b
  rcases hb with rfl | rfl
  · show (((BitVec.setWidth 32 (0#1)).toInt : ℝ) : EReal) = _
    simp
  · show (((BitVec.setWidth 32 (1#1)).toInt : ℝ) : EReal) = _
    have : (BitVec.setWidth 32 (1#1)).toInt = 1 := by decide
    rw [this]; simp

/-- A small number read as a float is itself. -/
theorem nat_float (φ : FTy) (n : ℕ) (h : n < 2 ^ 31) :
    (FloatOps.sitofp φ (BitVec.ofNat 32 n) : Ideal φ) = ((n : ℕ) : EReal) := by
  show (((BitVec.ofNat 32 n).toInt : ℝ) : EReal) = _
  have : (BitVec.ofNat 32 n).toInt = n := by
    rw [BitVec.toInt_eq_toNat_of_lt] <;> simp <;> omega
  rw [this]; push_cast; rfl

/-- A small index read as a float is its number. -/
theorem bv_float (φ : FTy) (b : BitVec 32) (h : b.toNat < 2 ^ 31) :
    (FloatOps.sitofp φ b : Ideal φ) = ((b.toNat : ℕ) : EReal) := by
  rw [← nat_float φ b.toNat h, BitVec.ofNat_toNat, BitVec.setWidth_eq]

end Cert.Exchange
-- ==== Proof.Ranks.lean ====
module

public import proofs.«01_k».proof.Proof.Counts

/-!
# Ranks of tokens and of packed rows

A device gives its own tokens consecutive row numbers, in token order; then, for each destination,
it numbers the rows which go there. The second number, of the row of a token, is the count of the
earlier tokens with the same owner and the same destination.
-/

@[expose] public section

noncomputable section

namespace Cert.Exchange

/-- Two tokens with the same rank are one token. -/
theorem rank_inj (p : ℕ → Prop) [DecidablePred p] {a b : ℕ} (ha : p a) (hb : p b)
    (h : Nat.count p a = Nat.count p b) : a = b := Nat.count_injective ha hb h

/-- Row `r` holds a token that satisfies `b`. -/
def rowHas (p b : ℕ → Prop) [DecidablePred p] (r : ℕ) : Prop := ∃ t, p t ∧ Nat.count p t = r ∧ b t

instance (p b : ℕ → Prop) [DecidablePred p] : DecidablePred (rowHas p b) :=
  fun _ => Classical.propDecidable _

theorem rowHas_rank (p b : ℕ → Prop) [DecidablePred p] {t : ℕ} (ht : p t) :
    rowHas p b (Nat.count p t) ↔ b t := by
  constructor
  · rintro ⟨u, hu, h, hb⟩
    rw [rank_inj p ht hu h.symm]; exact hb
  · intro hb; exact ⟨t, ht, rfl, hb⟩

/-- Counting rows up to a token's rank is counting tokens up to the token. -/
theorem count_rows (p b : ℕ → Prop) [DecidablePred p] [DecidablePred b] (n : ℕ) :
    Nat.count (rowHas p b) (Nat.count p n) = Nat.count (fun t => p t ∧ b t) n := by
  induction n with
  | zero => simp
  | succ n ih =>
    by_cases hp : p n
    · rw [Nat.count_succ p, if_pos hp, Nat.count_succ, Nat.count_succ, ih]
      by_cases hb : b n
      · rw [if_pos ((rowHas_rank p b hp).mpr hb), if_pos ⟨hp, hb⟩]
      · rw [if_neg (fun h => hb ((rowHas_rank p b hp).mp h)), if_neg (fun h => hb h.2)]
    · rw [Nat.count_succ p, if_neg hp, Nat.add_zero, ih, Nat.count_succ,
        if_neg (fun h => hp h.1), Nat.add_zero]

/-- A token inside a range has a rank below the count of the range. -/
theorem rank_lt (p : ℕ → Prop) [DecidablePred p] {t n m : ℕ} (ht : p t) (h : t < n)
    (hm : Nat.count p n ≤ m) : Nat.count p t < m :=
  lt_of_lt_of_le (Nat.count_strict_mono ht h) hm

end Cert.Exchange
-- ==== Proof.Pack.lean ====
module

public import proofs.«01_k».proof.Proof.Ranks

/-!
# Which tokens a device serves, and the row each takes

The device's number, the range of experts it owns, the running count of its tokens in eight chunks,
and the one-hot matrix that sends token `t` to row `rank t`.
-/

@[expose] public section

set_option maxRecDepth 65536

noncomputable section

namespace Cert.Exchange

open Cert.KernelIdeal Cert.KernelIdeal.Gen
open Idealize.ShloMosaic Idealize.ShloMosaic.TcCoe

variable (c : Dev nD) (I : Blocks Ideal)

/-- The number a device computes for itself. -/
theorem devW_eq : ∀ c : Dev nD, devW c = BitVec.ofNat 32 c.val := by decide
theorem eLo_eq : ∀ c : Dev nD, eLo c = BitVec.ofNat 32 (4 * c.val) := by decide
theorem eHi_eq : ∀ c : Dev nD, eHi c = BitVec.ofNat 32 (4 * c.val + 4) := by decide

/-- The expert a token is routed to. -/
def expertOf (t : Fin 1024) : ℕ := (I.ix (ix2 t 0) : BitVec 32).toNat

/-- Token `t` is routed to an expert of device `c`. -/
def owns (t : ℕ) : Prop := ∃ h : t < 1024, expertOf I ⟨t, h⟩ / 4 = c.val

instance : DecidablePred (owns c I) := fun _ => Classical.propDecidable _

/-- Every route is an expert. -/
def Routed : Prop := ∀ t, expertOf I t < 64

theorem toInt_small (b : BitVec 32) (h : b.toNat < 2 ^ 31) : b.toInt = b.toNat :=
  BitVec.toInt_eq_toNat_of_lt (by omega)

theorem and_bit (a b : Prop) [Decidable a] [Decidable b] :
    IntOp.andi (BitVec.ofBool (decide a)) (BitVec.ofBool (decide b)) = 1#1 ↔ a ∧ b := by
  by_cases ha : a <;> by_cases hb : b <;> simp [ha, hb, IntOp.andi]

/-- Signed comparison of small numbers is comparison of their values. -/
theorem sge_small (a b : BitVec 32) (ha : a.toNat < 2 ^ 31) (hb : b.toNat < 2 ^ 31) :
    IntOp.cmpi .sge a b = BitVec.ofBool (decide (b.toNat ≤ a.toNat)) := by
  simp only [IntOp.cmpi, BitVec.sle_eq_decide, toInt_small a ha, toInt_small b hb, Nat.cast_le]
theorem slt_small (a b : BitVec 32) (ha : a.toNat < 2 ^ 31) (hb : b.toNat < 2 ^ 31) :
    IntOp.cmpi .slt a b = BitVec.ofBool (decide (a.toNat < b.toNat)) := by
  simp only [IntOp.cmpi, BitVec.slt_eq_decide, toInt_small a ha, toInt_small b hb, Nat.cast_lt]

theorem eLo_nat : (eLo c).toNat = 4 * c.val := by
  have := c.isLt
  have h : c.val < 16 := c.isLt
  rw [eLo_eq, BitVec.toNat_ofNat]; omega
theorem eHi_nat : (eHi c).toNat = 4 * c.val + 4 := by
  have h : c.val < 16 := c.isLt
  rw [eHi_eq, BitVec.toNat_ofNat]; omega

variable {I} in
theorem mineV_iff (hR : Routed I) (t : Fin 1024) : mineV c I (ix2 t 0) = 1#1 ↔ owns c I t := by
  have h : c.val < 16 := c.isLt
  have he := hR t
  have h1 : mineV c I (ix2 t 0) = IntOp.andi (IntOp.cmpi .sge (I.ix (ix2 t 0)) (eLo c))
      (IntOp.cmpi .slt (I.ix (ix2 t 0)) (eHi c)) := by
    pointwise [mineV, k0_pay8, route, k0_pay5]
  rw [h1, sge_small _ _ (by unfold expertOf at he; omega) (by rw [eLo_nat]; omega),
    slt_small _ _ (by unfold expertOf at he; omega) (by rw [eHi_nat]; omega), and_bit, eLo_nat, eHi_nat]
  unfold owns
  constructor
  · rintro ⟨a, b⟩; exact ⟨t.isLt, by show (I.ix (ix2 t 0)).toNat / 4 = _; omega⟩
  · rintro ⟨_, a⟩; change (I.ix (ix2 t 0)).toNat / 4 = _ at a; constructor <;> omega

variable {I} in
theorem mineF_eq (hR : Routed I) (t : Fin 1024) :
    mineF c I (ix2 t 0) = if owns c I t then (1 : EReal) else 0 := by
  have h1 : mineF c I (ix2 t 0) = FloatOps.sitofp (F := Ideal) FTy.f32 (BitVec.setWidth 32 (mineV c I (ix2 t 0))) := by
    pointwise [mineF, k0_pay10]; rfl
  rw [h1, bit_float]
  simp only [mineV_iff c hR t]

theorem lowerV_eq (t s : Fin 128) :
    lowerV (F := Ideal) (ix2 t s) = if (s : ℕ) ≤ t then (1 : EReal) else 0 := by
  have h1 : lowerV (F := Ideal) (ix2 t s) = FloatOps.sitofp (F := Ideal) FTy.f32 (BitVec.setWidth 32
      (IntOp.cmpi CmpIPredicate.sge (BitVec.ofNat 32 ↑t) (BitVec.ofNat 32 ↑s))) := by
    pointwise [lowerV, k0_pay9]
  have ht := t.isLt
  have hs := s.isLt
  rw [h1, bit_float, sge_small _ _ (by simp; omega) (by simp; omega)]
  have e1 : (BitVec.ofNat 32 (t : ℕ)).toNat = t := by simp; omega
  have e2 : (BitVec.ofNat 32 (s : ℕ)).toNat = s := by simp; omega
  rw [e1, e2]
  by_cases h : (s : ℕ) ≤ t <;> simp [h]

variable {I} in
/-- One chunk's running count. -/
theorem chunk_eq (hR : Routed I) (b : ℕ) (hb : b + 128 ≤ 1024) (i : Fin 128) :
    (∑ x : Fin 128, lowerV (F := Ideal) (ix2 i x) * mineF c I (ix2 ⟨b + x, by have := x.isLt; omega⟩ 0))
      = ((Nat.count (fun k => owns c I (b + k)) (i + 1) : ℕ) : EReal) := by
  rw [← sum_lower (fun k => owns c I (b + k)) i 128 i.isLt]
  refine Finset.sum_congr rfl fun x _ => ?_
  rw [lowerV_eq, mineF_eq c hR]

/-- The count up to the end of a chunk. -/
def upto (n : ℕ) : EReal := ((Nat.count (owns c I) n : ℕ) : EReal)

variable {I} in
theorem upto_add (b n : ℕ) :
    upto c I b + ((Nat.count (fun k => owns c I (b + k)) n : ℕ) : EReal) = upto c I (b + n) := by
  unfold upto; rw [Nat.count_add, Nat.cast_add]

variable {I} in
theorem chunk_upto (hR : Routed I) (b : ℕ) (hb : b + 128 ≤ 1024) (i : Fin 128) :
    (∑ x : Fin 128, lowerV (F := Ideal) (ix2 i x) * mineF c I (ix2 ⟨b + x, by have := x.isLt; omega⟩ 0))
      + upto c I b = upto c I (b + (i + 1)) := by
  rw [chunk_eq c hR b hb, add_comm, upto_add]
variable {I} in
theorem upto_chunk (hR : Routed I) (b : ℕ) (hb : b + 128 ≤ 1024) :
    upto c I b +
    (∑ x : Fin 128, lowerV (F := Ideal) (ix2 127 x) * mineF c I (ix2 ⟨b + x, by have := x.isLt; omega⟩ 0))
      = upto c I (b + 128) := by
  rw [chunk_eq c hR b hb, upto_add]; rfl

theorem upto_zero : upto c I 0 = 0 := by simp [upto]

section chunks
variable {I} (hR : Routed I)
include hR

theorem pos0_eq (i : Fin 128) : pos0 c I (ix2 i 0) = upto c I (0 + (i + 1)) := by
  have h1 : pos0 c I (ix2 i 0) = (∑ x : Fin 128, lowerV (F := Ideal) (ix2 i x) *
      mineF c I (ix2 ⟨0 + x, by have := x.isLt; omega⟩ 0)) + 0 := by
    pointwise [pos0, k0_pay13, k0_pay12, k0_pay11, lowerV, mineF]
  rw [h1, ← upto_zero c I, chunk_upto c hR 0 (by omega)]

theorem off1_eq : k0_pay14 (F := Ideal) (route I) (eLo c) (eHi c) (ix2 0 0) = upto c I 128 := by
  have h1 : k0_pay14 (F := Ideal) (route I) (eLo c) (eHi c) (ix2 0 0) = 0 + (∑ x : Fin 128, lowerV (F := Ideal) (ix2 127 x) *
      mineF c I (ix2 ⟨0 + x, by have := x.isLt; omega⟩ 0)) := by
    pointwise [k0_pay14, k0_pay12, k0_pay11, lowerV, mineF]
  rw [h1, ← upto_zero c I, upto_chunk c hR 0 (by omega)]

theorem pos1_eq (i : Fin 128) : pos1 c I (ix2 i 0) = upto c I (128 + (i + 1)) := by
  have h1 : pos1 c I (ix2 i 0) = (∑ x : Fin 128, lowerV (F := Ideal) (ix2 i x) *
      mineF c I (ix2 ⟨128 + x, by have := x.isLt; omega⟩ 0)) + k0_pay14 (F := Ideal) (route I) (eLo c) (eHi c) (ix2 0 0) := by
    pointwise [pos1, k0_pay16, k0_pay15, lowerV, mineF]
  rw [h1, off1_eq c hR, chunk_upto c hR 128 (by omega)]

theorem off2_eq : k0_pay17 (F := Ideal) (route I) (eLo c) (eHi c) (ix2 0 0) = upto c I 256 := by
  have h1 : k0_pay17 (F := Ideal) (route I) (eLo c) (eHi c) (ix2 0 0) = k0_pay14 (F := Ideal) (route I) (eLo c) (eHi c) (ix2 0 0) + (∑ x : Fin 128, lowerV (F := Ideal) (ix2 127 x) *
      mineF c I (ix2 ⟨128 + x, by have := x.isLt; omega⟩ 0)) := by
    pointwise [k0_pay17, k0_pay15, lowerV, mineF]
  rw [h1, off1_eq c hR, upto_chunk c hR 128 (by omega)]

theorem pos2_eq (i : Fin 128) : pos2 c I (ix2 i 0) = upto c I (256 + (i + 1)) := by
  have h1 : pos2 c I (ix2 i 0) = (∑ x : Fin 128, lowerV (F := Ideal) (ix2 i x) *
      mineF c I (ix2 ⟨256 + x, by have := x.isLt; omega⟩ 0)) + k0_pay17 (F := Ideal) (route I) (eLo c) (eHi c) (ix2 0 0) := by
    pointwise [pos2, k0_pay19, k0_pay18, lowerV, mineF]
  rw [h1, off2_eq c hR, chunk_upto c hR 256 (by omega)]

theorem off3_eq : off3 c I (ix2 0 0) = upto c I 384 := by
  have h1 : off3 c I (ix2 0 0) = k0_pay17 (F := Ideal) (route I) (eLo c) (eHi c) (ix2 0 0) + (∑ x : Fin 128, lowerV (F := Ideal) (ix2 127 x) *
      mineF c I (ix2 ⟨256 + x, by have := x.isLt; omega⟩ 0)) := by
    pointwise [off3, k0_pay20, k0_pay18, lowerV, mineF]
  rw [h1, off2_eq c hR, upto_chunk c hR 256 (by omega)]

omit hR in
theorem cnt3_eq (i : Fin 128) : cnt3 c I (ix2 i 0) = (∑ x : Fin 128, lowerV (F := Ideal) (ix2 i x) *
      mineF c I (ix2 ⟨384 + x, by have := x.isLt; omega⟩ 0)) := by
  pointwise [cnt3, k0_pay21, lowerV, mineF]

/-- Token `t` takes row `r`: it is the device's, and `r` of the device's tokens come before it. -/
theorem pickV_eq (t : Fin 1024) (r : Fin 128) :
    pickV c I (ix2 t r) = if owns c I t ∧ Nat.count (owns c I) t = r then (1 : EReal) else 0 := by
  have ht := t.isLt
  have h1 : pickV c I (ix2 t r) = FloatOps.sitofp (F := Ideal) FTy.f32 (BitVec.setWidth 32 (IntOp.andi
      (BitVec.ofBool (decide (upto c I (t + 1) = FloatOps.sitofp (F := Ideal) FTy.f32 (BitVec.ofNat 32 ↑r) + 1)))
      (mineV c I (ix2 t 0)))) := by
    pointwise [pickV, k0_pay22]
    congr 6
    simp only [pos0_eq c hR, pos1_eq c hR, pos2_eq c hR, off3_eq c hR, cnt3_eq c,
      upto_chunk c hR 384 (by omega), upto_chunk c hR 512 (by omega), upto_chunk c hR 640 (by omega),
      upto_chunk c hR 768 (by omega), chunk_upto c hR 384 (by omega), chunk_upto c hR 512 (by omega),
      chunk_upto c hR 640 (by omega), chunk_upto c hR 768 (by omega), chunk_upto c hR 896 (by omega)]
    split_ifs <;> · congr 1; omega
  rw [h1, bit_float, nat_float _ _ (by have := r.isLt; omega)]
  have e : upto c I (t + 1) = ((r : ℕ) : EReal) + 1 ↔ Nat.count (owns c I) (t + 1) = r + 1 := by
    have : ((r : ℕ) : EReal) + 1 = ((r + 1 : ℕ) : EReal) := by push_cast; rfl
    unfold upto
    rw [this, nat_inj]
  have k : ∀ (a : Prop) [Decidable a] (b : BitVec 1), IntOp.andi (BitVec.ofBool (decide a)) b = 1#1 ↔ a ∧ b = 1#1 := by
    intro a _ b
    have hb : b = 0#1 ∨ b = 1#1 := by
      have : ∀ b : BitVec 1, b = 0#1 ∨ b = 1#1 := by decide
      exact this b
    rcases hb with rfl | rfl <;> by_cases ha : a <;> simp [ha, IntOp.andi]
  simp only [k, mineV_iff c hR t, e]
  refine if_congr ?_ rfl rfl
  rw [Nat.count_succ]
  constructor
  · rintro ⟨a, b⟩; rw [if_pos b] at a; exact ⟨b, by omega⟩
  · rintro ⟨a, b⟩; rw [if_pos a]; exact ⟨by omega, a⟩

end chunks

end Cert.Exchange
-- ==== Proof.Rows.lean ====
module

public import proofs.«01_k».proof.Proof.Pack
public import Idealize.ShloMosaic.Lib.Routing.Words

/-!
# The rows a device packs

Each row's token, place, gate, expert and home block, picked by the one-hot matrix. Only rows that
hold a token are described: no slot ever takes one of the others.
-/

@[expose] public section

set_option maxRecDepth 65536

noncomputable section

namespace Cert.Exchange

open Cert.KernelIdeal Cert.KernelIdeal.Gen
open Idealize.ShloMosaic Idealize.ShloMosaic.TcCoe

/-- The printed remainder, with its correction for signs, on small numbers. -/
theorem mod_word (k m : ℕ) (hk : k < 2 ^ 31) (h0 : 0 < m) (hm : m < 2 ^ 31) (b : BitVec 1) (z : BitVec 32) :
    Scalar.select
      (IntOp.andi
        (IntOp.xori
          (IntOp.cmpi CmpIPredicate.slt (IntOp.remsi ArithUnit.vector (BitVec.ofNat 32 k) (BitVec.ofNat 32 m)) 0#32)
          0#1)
        b)
      z
      (IntOp.remsi ArithUnit.vector (BitVec.ofNat 32 k) (BitVec.ofNat 32 m)) = BitVec.ofNat 32 (k % m) := by
  have h1 : k % m < m := Nat.mod_lt _ h0
  rw [Routing.remsi_word .vector hk h0 hm, slt_small _ _ (by simp; omega) (by simp)]
  have : IntOp.andi (IntOp.xori (BitVec.ofBool (decide ((BitVec.ofNat 32 (k % m)).toNat < (0#32).toNat))) 0#1) b = 0#1 := by
    simp [IntOp.andi, IntOp.xori]
  rw [this]; rfl

/-- The printed quotient, with its correction for signs, on small numbers. -/
theorem div_word (k m : ℕ) (hk : k < 2 ^ 31) (h0 : 0 < m) (hm : m < 2 ^ 31) (z : BitVec 32) :
    Scalar.select
      (IntOp.andi
        (IntOp.cmpi CmpIPredicate.ne
          (IntOp.subi (BitVec.setWidth 32 (IntOp.cmpi CmpIPredicate.sgt (BitVec.ofNat 32 k) 0#32))
            (BitVec.setWidth 32 (IntOp.cmpi CmpIPredicate.slt (BitVec.ofNat 32 k) 0#32)))
          1#32)
        (IntOp.cmpi CmpIPredicate.ne (IntOp.remsi ArithUnit.vector (BitVec.ofNat 32 k) (BitVec.ofNat 32 m)) 0#32))
      z
      (IntOp.divsi ArithUnit.vector (BitVec.ofNat 32 k) (BitVec.ofNat 32 m)) = BitVec.ofNat 32 (k / m) := by
  have h1 : k % m < m := Nat.mod_lt _ h0
  rw [Routing.remsi_word .vector hk h0 hm, Routing.divsi_word .vector hk h0 hm]
  rw [slt_small _ _ (by simp; omega) (by simp)]
  have hs : IntOp.cmpi CmpIPredicate.sgt (BitVec.ofNat 32 k) 0#32 = BitVec.ofBool (decide (0 < k)) := by
    have := slt_small 0#32 (BitVec.ofNat 32 k) (by simp) (by simp; omega)
    have e : (BitVec.ofNat 32 k).toNat = k := by simp; omega
    rw [e] at this
    exact this
  rw [hs]
  rcases Nat.eq_zero_or_pos k with rfl | hp
  · have : IntOp.cmpi CmpIPredicate.ne (BitVec.ofNat 32 (0 % m)) 0#32 = 0#1 := by rw [Nat.zero_mod]; rfl
    rw [this]
    have e : ∀ b : BitVec 1, IntOp.andi b 0#1 = 0#1 := by decide
    rw [e]; rfl
  · have : IntOp.cmpi CmpIPredicate.ne (IntOp.subi (BitVec.setWidth 32 (BitVec.ofBool (decide (0 < k))))
            (BitVec.setWidth 32 (BitVec.ofBool (decide ((BitVec.ofNat 32 k).toNat < (0#32).toNat))))) 1#32 = 0#1 := by
      rw [decide_eq_true hp]
      have : decide ((BitVec.ofNat 32 k).toNat < (0#32).toNat) = false := by simp
      rw [this]; decide
    rw [this]
    have e : ∀ b : BitVec 1, IntOp.andi 0#1 b = 0#1 := by decide
    rw [e]; rfl

variable (c : Dev nD) (I : Blocks Ideal)

/-- Row `r` holds token `t`. -/
def rowTok (r t : ℕ) : Prop := owns c I t ∧ Nat.count (owns c I) t = r

variable {I} {c}

theorem rowTok_unique {r t u : ℕ} (h : rowTok c I r t) (h' : rowTok c I r u) : u = t :=
  rank_inj _ h'.1 h.1 (h'.2.trans h.2.symm)

section picks
variable (hR : Routed I)
include hR

theorem pick_sum {r : Fin 128} {t : Fin 1024} (h : rowTok c I r t) (f : Fin 1024 → EReal) :
    (∑ x, pickV c I (ix2 x r) * f x) = f t := by
  simp only [pickV_eq c hR]
  refine sum_pick (fun x : Fin 1024 => owns c I x ∧ Nat.count (owns c I) x = r) f t fun k => ?_
  constructor
  · intro hk; exact Fin.ext (rowTok_unique h hk)
  · rintro rfl; exact h
theorem pick_sum' {r : Fin 128} {t : Fin 1024} (h : rowTok c I r t) (f : Fin 1024 → EReal) :
    (∑ x, f x * pickV c I (ix2 x r)) = f t := by
  rw [← pick_sum hR h f]; exact Finset.sum_congr rfl fun x _ => mul_comm _ _
theorem pick_none {r : Fin 128} (h : ∀ t, ¬ rowTok c I r t) (f : Fin 1024 → EReal) :
    (∑ x, pickV c I (ix2 x r) * f x) = 0 := by
  simp only [pickV_eq c hR]
  exact sum_none (fun x : Fin 1024 => owns c I x ∧ Nat.count (owns c I) x = r) f fun k => h k

theorem rowsX_eq {r : Fin 128} {t : Fin 1024} (h : rowTok c I r t) (k : Fin 512) :
    rowsX c I (ix2 r k) = I.x (ix2 t k) := by
  have h1 : rowsX c I (ix2 r k) = ∑ x : Fin 1024, pickV c I (ix2 x r) * (I.x (ix2 x k) : EReal) := by
    pointwise [rowsX, k0_pay23, k0_pay1, pickV]
  rw [h1, pick_sum hR h]

theorem rowPlace_eq {r : Fin 128} {t : Fin 1024} (h : rowTok c I r t) :
    rowPlace c I (ix2 r 0) = (((t : ℕ) % 64 : ℕ) : EReal) := by
  have h1 : rowPlace c I (ix2 r 0) = ∑ x : Fin 1024, pickV c I (ix2 x r) *
      FloatOps.sitofp (F := Ideal) FTy.f32 (BitVec.ofNat 32 ((x : ℕ) % 64)) := by
    pointwise [rowPlace, k0_pay27, k0_pay24, k0_pay25, k0_pay26, tokCol]
    refine Finset.sum_congr rfl fun x _ => ?_
    congr 2
    exact mod_word x 64 (by have := x.isLt; omega) (by omega) (by omega) _ _
  rw [h1, pick_sum hR h, nat_float _ _ (by omega)]

theorem rowGate_eq {r : Fin 128} {t : Fin 1024} (h : rowTok c I r t) :
    rowGate c I (ix2 r 0) = gateV c I (ix2 t 0) := by
  have h1 : rowGate c I (ix2 r 0) = ∑ x : Fin 1024, pickV c I (ix2 x r) * gateV c I (ix2 x 0) := by
    pointwise [rowGate, k0_pay28]
  rw [h1, pick_sum hR h]

theorem rowExp_eq {r : Fin 128} {t : Fin 1024} (h : rowTok c I r t) :
    rowExp c I (ix2 r 0) = ((expertOf I t : ℕ) : EReal) := by
  have h1 : rowExp c I (ix2 r 0) = ∑ x : Fin 1024, pickV c I (ix2 x r) *
      FloatOps.sitofp (F := Ideal) FTy.f32 (I.ix (ix2 x 0)) := by
    pointwise [rowExp, k0_pay29, route, k0_pay5]
  have := hR t
  rw [h1, pick_sum hR h, bv_float _ _ (by unfold expertOf at this; omega)]
  rfl

theorem rowHome_eq {r : Fin 128} {t : Fin 1024} (h : rowTok c I r t) :
    rowHome c I (ix2 0 r) = (((t : ℕ) / 64 : ℕ) : EReal) := by
  have h1 : rowHome c I (ix2 0 r) = ∑ x : Fin 1024,
      FloatOps.sitofp (F := Ideal) FTy.f32 (BitVec.ofNat 32 ((x : ℕ) / 64)) * pickV c I (ix2 x r) := by
    pointwise [rowHome, k0_pay30, tokRow]
    refine Finset.sum_congr rfl fun x _ => ?_
    congr 2
    exact div_word x 64 (by have := x.isLt; omega) (by omega) (by omega) _
  have := t.isLt
  rw [h1, pick_sum' hR h, nat_float _ _ (by omega)]

theorem rowLive_eq {r : Fin 128} {t : Fin 1024} (h : rowTok c I r t) : rowLive c I (ix2 0 r) = 1 := by
  have h1 : rowLive c I (ix2 0 r) = ∑ x : Fin 1024, pickV c I (ix2 x r) * 1 := by
    pointwise [rowLive, k0_pay31]
  rw [h1, pick_sum hR h]
theorem rowLive_none {r : Fin 128} (h : ∀ t, ¬ rowTok c I r t) : rowLive c I (ix2 0 r) = 0 := by
  have h1 : rowLive c I (ix2 0 r) = ∑ x : Fin 1024, pickV c I (ix2 x r) * 1 := by
    pointwise [rowLive, k0_pay31]
  rw [h1, pick_none hR h]

end picks

end Cert.Exchange
-- ==== Proof.Payload.lean ====
module

public import proofs.«01_k».proof.Proof.Rows

/-!
# What a packed row carries

The gate of a served token is its router probability at its own expert, and its row carries that
gate times the token through the expert's weights.
-/

@[expose] public section

set_option maxRecDepth 65536

noncomputable section

namespace Cert.Exchange

open Cert.KernelIdeal Cert.KernelIdeal.Gen
open Idealize.ShloMosaic Idealize.ShloMosaic.TcCoe

/-- A choice on equal words. -/
theorem select_eq {α : Type} (a b : BitVec 32) (x y : α) :
    Scalar.select (IntOp.cmpi CmpIPredicate.eq a b) x y = if a = b then x else y := by
  by_cases h : a = b
  · simp [Scalar.select, IntOp.cmpi, h]
  · have hb : (a == b) = false := by simpa using h
    simp [Scalar.select, IntOp.cmpi, h, hb]

theorem word_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem word_eq {a : BitVec 32} {b : ℕ} (hb : b < 2 ^ 32) : a = BitVec.ofNat 32 b ↔ a.toNat = b := by
  constructor
  · rintro rfl; rw [BitVec.toNat_ofNat, Nat.mod_eq_of_lt hb]
  · rintro rfl; simp

/-- The sum over the lanes of the lane that carries a number picks that lane. -/
theorem lane_sum (n : Fin 64) (f : Fin 64 → EReal) :
    (∑ x : Fin 64, Scalar.select (IntOp.cmpi CmpIPredicate.eq (BitVec.ofNat 32 x) (BitVec.ofNat 32 n)) (f x) 0) = f n := by
  simp only [select_eq]
  refine sum_choose (fun x : Fin 64 => BitVec.ofNat 32 x = BitVec.ofNat 32 n) f n fun k => ?_
  rw [word_inj (by have := k.isLt; omega) (by have := n.isLt; omega)]
  exact Fin.val_inj

/-- The words of a device's four experts. -/
theorem own0 : ∀ c : Dev nD, Scalar.addi (Scalar.muli (devW c) 4#32) 0#32 = BitVec.ofNat 32 (4 * c.val + 0) := by decide
theorem own1 : ∀ c : Dev nD, Scalar.addi (Scalar.muli (devW c) 4#32) 1#32 = BitVec.ofNat 32 (4 * c.val + 1) := by decide
theorem own2 : ∀ c : Dev nD, Scalar.addi (Scalar.muli (devW c) 4#32) 2#32 = BitVec.ofNat 32 (4 * c.val + 2) := by decide
theorem own3 : ∀ c : Dev nD, Scalar.addi (Scalar.muli (devW c) 4#32) 3#32 = BitVec.ofNat 32 (4 * c.val + 3) := by decide

variable {c : Dev nD} {I : Blocks Ideal}

/-- Of four choices, one per expert of the device, the token's own is taken. -/
theorem four (e : ℕ) (h : e / 4 = c.val) (f : ℕ → EReal) :
    (if e = 4 * c.val + 0 then f 0 else 0) + (if e = 4 * c.val + 1 then f 1 else 0)
      + (if e = 4 * c.val + 2 then f 2 else 0) + (if e = 4 * c.val + 3 then f 3 else 0) = f (e % 4) := by
  have h4 : e % 4 < 4 := Nat.mod_lt _ (by omega)
  obtain hk | hk | hk | hk : e % 4 = 0 ∨ e % 4 = 1 ∨ e % 4 = 2 ∨ e % 4 = 3 := by omega
  · rw [hk, if_pos (by omega), if_neg (by omega), if_neg (by omega), if_neg (by omega)]; simp
  · rw [hk, if_pos (show e = 4 * c.val + 1 by omega), if_neg (by omega), if_neg (by omega), if_neg (by omega)]; simp
  · rw [hk, if_pos (show e = 4 * c.val + 2 by omega), if_neg (by omega), if_neg (by omega), if_neg (by omega)]; simp
  · rw [hk, if_pos (show e = 4 * c.val + 3 by omega), if_neg (by omega), if_neg (by omega), if_neg (by omega)]; simp

/-- The probabilities by number, zero past the last. -/
def probAt (I : Blocks Ideal) (t : Fin 1024) (n : ℕ) : EReal := if h : n < 64 then prob I (ix2 t ⟨n, h⟩) else 0

theorem lane_at (t : Fin 1024) (n : ℕ) (h : n < 64) :
    (∑ x : Fin 64, Scalar.select (IntOp.cmpi CmpIPredicate.eq (BitVec.ofNat 32 x) (BitVec.ofNat 32 n)) (prob I (ix2 t x)) 0)
      = probAt I t n := by
  have := lane_sum ⟨n, h⟩ fun x => prob I (ix2 t x)
  rw [probAt, dif_pos h]; exact this

/-- The gate of a token the device serves. -/
theorem gateV_eq (hR : Routed I) {t : Fin 1024} (h : owns c I t) :
    gateV c I (ix2 t 0) = probAt I t (expertOf I t) := by
  have hc : c.val < 16 := c.isLt
  obtain ⟨_, he⟩ := h
  change expertOf I t / 4 = c.val at he
  have h1 : gateV c I (ix2 t 0) =
      Scalar.select (IntOp.cmpi CmpIPredicate.eq (I.ix (ix2 t 0)) (Scalar.addi (Scalar.muli (devW c) 4#32) 0#32))
            (∑ x : Fin 64, Scalar.select (IntOp.cmpi CmpIPredicate.eq (BitVec.ofNat 32 ↑x) (Scalar.addi (Scalar.muli (devW c) 4#32) 0#32)) (prob I (ix2 t x)) 0) 0
      + Scalar.select (IntOp.cmpi CmpIPredicate.eq (I.ix (ix2 t 0)) (Scalar.addi (Scalar.muli (devW c) 4#32) 1#32))
            (∑ x : Fin 64, Scalar.select (IntOp.cmpi CmpIPredicate.eq (BitVec.ofNat 32 ↑x) (Scalar.addi (Scalar.muli (devW c) 4#32) 1#32)) (prob I (ix2 t x)) 0) 0
      + Scalar.select (IntOp.cmpi CmpIPredicate.eq (I.ix (ix2 t 0)) (Scalar.addi (Scalar.muli (devW c) 4#32) 2#32))
            (∑ x : Fin 64, Scalar.select (IntOp.cmpi CmpIPredicate.eq (BitVec.ofNat 32 ↑x) (Scalar.addi (Scalar.muli (devW c) 4#32) 2#32)) (prob I (ix2 t x)) 0) 0
      + Scalar.select (IntOp.cmpi CmpIPredicate.eq (I.ix (ix2 t 0)) (Scalar.addi (Scalar.muli (devW c) 4#32) 3#32))
            (∑ x : Fin 64, Scalar.select (IntOp.cmpi CmpIPredicate.eq (BitVec.ofNat 32 ↑x) (Scalar.addi (Scalar.muli (devW c) 4#32) 3#32)) (prob I (ix2 t x)) 0) 0 := by
    pointwise [gateV, k0_pay7, gate3, k0_pay6, prob, k0_pay4, lane, k0_pay5, route, eLo]
  rw [h1, own0, own1, own2, own3]
  rw [lane_at t _ (by omega), lane_at t _ (by omega), lane_at t _ (by omega), lane_at t _ (by omega)]
  simp only [select_eq]
  rw [if_congr (word_eq (a := I.ix (ix2 t 0)) (b := 4 * c.val + 0) (by omega)) rfl rfl,
    if_congr (word_eq (a := I.ix (ix2 t 0)) (b := 4 * c.val + 1) (by omega)) rfl rfl,
    if_congr (word_eq (a := I.ix (ix2 t 0)) (b := 4 * c.val + 2) (by omega)) rfl rfl,
    if_congr (word_eq (a := I.ix (ix2 t 0)) (b := 4 * c.val + 3) (by omega)) rfl rfl]
  have := four (c := c) (expertOf I t) he fun j => probAt I t (4 * c.val + j)
  rw [show 4 * c.val + expertOf I t % 4 = expertOf I t by omega] at this
  exact this

/-- The loads of the four experts read the device's block. -/
theorem expW_eq (e : Fin 4) (inb) (k : Fin 512) (m : Fin 1024) :
    expW I e.val inb (ix3 0 k m) = I.ew (ix3 e k m) := by
  refine congrArg I.ew (funext fun a => Fin.ext ?_)
  fin_cases a
  · show e.val + 1 * 0 = e.val; omega
  · show 0 + 1 * k.val = k.val; omega
  · show 0 + 1 * m.val = m.val; omega

/-- A device's weights, and its tokens, as extended reals. -/
def ewAt (I : Blocks Ideal) (e : Fin 4) (k : Fin 512) (m : Fin 1024) : EReal := I.ew (ix3 e k m)
def xAt (I : Blocks Ideal) (t : Fin 1024) (k : Fin 512) : EReal := I.x (ix2 t k)

/-- The token through one of the device's experts. -/
def viaExpert (I : Blocks Ideal) (t : Fin 1024) (m : Fin 1024) (j : ℕ) : EReal :=
  if h : j < 4 then ∑ k : Fin 512, xAt I t k * ewAt I ⟨j, h⟩ k m else 0

theorem word_float (c : Dev nD) (j : ℕ) (hj : j < 4) (w : BitVec 32) (hw : w = BitVec.ofNat 32 (4 * c.val + j)) :
    (((w.toInt : ℤ) : ℝ) : EReal) = ((4 * c.val + j : ℕ) : EReal) := by
  subst hw
  have hc : c.val < 16 := c.isLt
  exact nat_float .f32 (4 * c.val + j) (by omega)

/-- The row's output: gate times the token through its expert. -/
theorem payD_eq (hR : Routed I) {r : Fin 128} {t : Fin 1024} (h : rowTok c I r t) (m : Fin 1024) :
    payD c I (ix2 r m) = probAt I t (expertOf I t) * viaExpert I t m (expertOf I t % 4) := by
  have h1 : payD c I (ix2 r m) = rowGate c I (ix2 r 0) *
      ((if rowExp c I (ix2 r 0) = (((Scalar.addi (Scalar.muli (devW c) 4#32) 0#32).toInt : ℝ) : EReal) then
              ∑ x : Fin 512, rowsX c I (ix2 r x) * expW0 I (ix3 0 x m) else 0)
      + (if rowExp c I (ix2 r 0) = (((Scalar.addi (Scalar.muli (devW c) 4#32) 1#32).toInt : ℝ) : EReal) then
              ∑ x : Fin 512, rowsX c I (ix2 r x) * expW1 I (ix3 0 x m) else 0)
      + (if rowExp c I (ix2 r 0) = (((Scalar.addi (Scalar.muli (devW c) 4#32) 2#32).toInt : ℝ) : EReal) then
              ∑ x : Fin 512, rowsX c I (ix2 r x) * expW2 I (ix3 0 x m) else 0)
      + (if rowExp c I (ix2 r 0) = (((Scalar.addi (Scalar.muli (devW c) 4#32) 3#32).toInt : ℝ) : EReal) then
              ∑ x : Fin 512, rowsX c I (ix2 r x) * expW3 I (ix3 0 x m) else 0)) := by
    pointwise [payD, k0_pay37, outs3, k0_pay34, k0_pay32, k0_pay33, outL, k0_pay35, lastE, k0_pay36, eLo]
  have s0 : (∑ x : Fin 512, rowsX c I (ix2 r x) * expW0 I (ix3 0 x m)) = viaExpert I t m 0 := by
    rw [viaExpert, dif_pos (by omega)]
    exact Finset.sum_congr rfl fun x _ => congrArg₂ (· * ·) (rowsX_eq hR h x) (expW_eq ⟨0, by omega⟩ _ x m)
  have s1 : (∑ x : Fin 512, rowsX c I (ix2 r x) * expW1 I (ix3 0 x m)) = viaExpert I t m 1 := by
    rw [viaExpert, dif_pos (by omega)]
    exact Finset.sum_congr rfl fun x _ => congrArg₂ (· * ·) (rowsX_eq hR h x) (expW_eq ⟨1, by omega⟩ _ x m)
  have s2 : (∑ x : Fin 512, rowsX c I (ix2 r x) * expW2 I (ix3 0 x m)) = viaExpert I t m 2 := by
    rw [viaExpert, dif_pos (by omega)]
    exact Finset.sum_congr rfl fun x _ => congrArg₂ (· * ·) (rowsX_eq hR h x) (expW_eq ⟨2, by omega⟩ _ x m)
  have s3 : (∑ x : Fin 512, rowsX c I (ix2 r x) * expW3 I (ix3 0 x m)) = viaExpert I t m 3 := by
    rw [viaExpert, dif_pos (by omega)]
    exact Finset.sum_congr rfl fun x _ => congrArg₂ (· * ·) (rowsX_eq hR h x) (expW_eq ⟨3, by omega⟩ _ x m)
  rw [h1, s0, s1, s2, s3, rowGate_eq hR h, gateV_eq hR h.1, rowExp_eq hR h,
    word_float c 0 (by omega) _ (own0 c), word_float c 1 (by omega) _ (own1 c),
    word_float c 2 (by omega) _ (own2 c), word_float c 3 (by omega) _ (own3 c)]
  simp only [nat_inj]
  obtain ⟨_, he⟩ := h.1
  rw [four (c := c) (expertOf I t) he fun j => viaExpert I t m j]

/-- A row of the payload at its output columns and at its place column. -/
theorem payRows_data (r : Fin 128) (m : Fin 1024) :
    payRows c I (ix2 r (⟨m, by have := m.isLt; omega⟩ : Fin 1152)) = payD c I (ix2 r m) := by
  unfold payRows bands
  exact dif_pos m.isLt

theorem payRows_place (r : Fin 128) :
    payRows c I (ix2 r (1024 : Fin 1152)) = rowPlace c I (ix2 r 0) := by
  have h1 : payP c I (ix2 r 0) = rowPlace c I (ix2 r 0) := by
    pointwise [payP, k0_pay38]
  rw [← h1]
  rfl

end Cert.Exchange
-- ==== Proof.Packets.lean ====
module

public import proofs.«01_k».proof.Proof.Payload

/-!
# What a packet carries

Slot `q` of the packet for device `d` carries the row of the `q`-th token the sender serves among
those whose home is `d`, and zeros when there is no such token.
-/

@[expose] public section

set_option maxRecDepth 65536

noncomputable section

namespace Cert.Exchange

open Cert.KernelIdeal Cert.KernelIdeal.Gen
open Idealize.ShloMosaic Idealize.ShloMosaic.TcCoe

/-- The threshold of the kernel's flags. -/
theorem half : Ideal.ofBits FTy.f32 1056964608#32 = ((1 / 2 : ℝ) : EReal) := by
  simp [Ideal.ofBits, Ideal.ieee, -EReal.coe_mul]; norm_num
theorem half_lt_one : Ideal.ofBits FTy.f32 1056964608#32 < (1 : EReal) := by
  rw [half, ← EReal.coe_one, EReal.coe_lt_coe_iff]; norm_num
theorem half_not_lt : ¬ Ideal.ofBits FTy.f32 1056964608#32 < (0 : EReal) := by
  rw [half, ← EReal.coe_zero, EReal.coe_lt_coe_iff]; norm_num

/-- The tokens whose home is device `d`. -/
def homeIs (d t : ℕ) : Prop := t / 64 = d
instance (d : ℕ) : DecidablePred (homeIs d) := fun _ => inferInstanceAs (Decidable (_ = _))

/-- The sender's rows for device `d`, and the sender's tokens for device `d`. -/
abbrev rowsFor (c : Dev nD) (I : Blocks Ideal) (d : ℕ) : ℕ → Prop := rowHas (owns c I) (homeIs d)
def toksFor (c : Dev nD) (I : Blocks Ideal) (d t : ℕ) : Prop := owns c I t ∧ homeIs d t
instance (c : Dev nD) (I : Blocks Ideal) (d : ℕ) : DecidablePred (toksFor c I d) :=
  fun _ => inferInstanceAs (Decidable (_ ∧ _))

variable {c : Dev nD} {I : Blocks Ideal}

theorem rowTok_of_rows {d r : ℕ} (h : rowsFor c I d r) : ∃ t : Fin 1024, rowTok c I r t ∧ homeIs d t := by
  obtain ⟨t, ht, hr, hd⟩ := h
  exact ⟨⟨t, ht.1⟩, ⟨ht, hr⟩, hd⟩

theorem homeB_eq (hR : Routed I) (d : Fin 16) (r : Fin 128) :
    homeB c I (ix2 d r) = if rowsFor c I d r then (1 : EReal) else 0 := by
  have h1 : homeB c I (ix2 d r) = FloatOps.sitofp (F := Ideal) FTy.f32
      (BitVec.setWidth 32
        (IntOp.andi (BitVec.ofBool (decide (rowHome c I (ix2 0 r) = FloatOps.sitofp (F := Ideal) FTy.f32 (BitVec.ofNat 32 ↑d))))
          (BitVec.ofBool (decide (Ideal.ofBits FTy.f32 1056964608#32 < rowLive c I (ix2 0 r)))))) := by
    pointwise [homeB, k0_pay40]
  rw [h1, bit_float, nat_float _ _ (by have := d.isLt; omega)]
  refine if_congr ?_ rfl rfl
  rw [and_bit]
  by_cases hx : ∃ t : Fin 1024, rowTok c I r t
  · obtain ⟨t, ht⟩ := hx
    rw [rowHome_eq hR ht, rowLive_eq hR ht, nat_inj]
    constructor
    · rintro ⟨a, _⟩; exact ⟨t, ht.1, ht.2, a⟩
    · rintro ⟨u, hu, hr, hd⟩
      refine ⟨?_, half_lt_one⟩
      have : u = t := rowTok_unique ht ⟨hu, hr⟩
      subst this; exact hd
  · have hn : ∀ t, ¬ rowTok c I r t := fun t ht => hx ⟨⟨t, ht.1.1⟩, ht⟩
    rw [rowLive_none hR hn]
    constructor
    · rintro ⟨_, b⟩; exact absurd b half_not_lt
    · intro h; obtain ⟨t, ht, _⟩ := rowTok_of_rows h; exact absurd ht (hn t)

theorem homeF_eq (hR : Routed I) (d : Fin 16) (r : Fin 128) :
    homeF c I (ix2 d r) = ((Nat.count (rowsFor c I d) (r + 1) : ℕ) : EReal) := by
  have h1 : homeF c I (ix2 d r) = ∑ x : Fin 128, homeB c I (ix2 d x) *
        FloatOps.sitofp (F := Ideal) FTy.f32
          (BitVec.setWidth 32 (IntOp.cmpi CmpIPredicate.sle (BitVec.ofNat 32 ↑x) (BitVec.ofNat 32 ↑r))) := by
    pointwise [homeF, k0_pay41, homeB]
  rw [h1, ← sum_lower' (rowsFor c I d) r 128 r.isLt]
  refine Finset.sum_congr rfl fun x _ => ?_
  rw [homeB_eq hR, bit_float]
  congr 1
  refine if_congr ?_ rfl rfl
  have hx := x.isLt
  have hr := r.isLt
  have e := sge_small (BitVec.ofNat 32 (r : ℕ)) (BitVec.ofNat 32 (x : ℕ)) (by simp; omega) (by simp; omega)
  have e0 : IntOp.cmpi CmpIPredicate.sle (BitVec.ofNat 32 (x : ℕ)) (BitVec.ofNat 32 (r : ℕ))
      = IntOp.cmpi CmpIPredicate.sge (BitVec.ofNat 32 (r : ℕ)) (BitVec.ofNat 32 (x : ℕ)) := rfl
  have e1 : (BitVec.ofNat 32 (r : ℕ)).toNat = r := by simp; omega
  have e2 : (BitVec.ofNat 32 (x : ℕ)).toNat = x := by simp; omega
  rw [e0, e, e1, e2]
  by_cases h : (x : ℕ) ≤ r <;> simp [h]

/-- The slot's row of a table of 256, and the table's one-hot expansion by sixteens. -/
theorem expand_eq (f : Fin 16 → EReal) (d q : Fin 16) :
    (∑ x : Fin 16, FloatOps.sitofp (F := Ideal) FTy.f32
          (BitVec.setWidth 32 (IntOp.cmpi CmpIPredicate.eq (BitVec.ofNat 32 ((d.val * 16 + q.val) / 16)) (BitVec.ofNat 32 ↑x))) * f x)
      = f d := by
  have hd := d.isLt
  have hq := q.isLt
  simp only [bit_float]
  refine sum_pick (fun x : Fin 16 => IntOp.cmpi CmpIPredicate.eq (BitVec.ofNat 32 ((d.val * 16 + q.val) / 16)) (BitVec.ofNat 32 ↑x) = 1#1) f d fun x => ?_
  have hx := x.isLt
  have e : (d.val * 16 + q.val) / 16 = d.val := by omega
  rw [e]
  have w := word_inj (a := d.val) (b := x.val) (by omega) (by omega)
  by_cases h : d = x
  · subst h; simp [IntOp.cmpi]
  · have hn : ¬ BitVec.ofNat 32 d.val = BitVec.ofNat 32 x.val := fun hh => h (Fin.ext (w.mp hh))
    have hb : (BitVec.ofNat 32 d.val == BitVec.ofNat 32 x.val) = false := by simpa using hn
    simp only [IntOp.cmpi, hb]
    constructor
    · intro hh; exact absurd hh (by decide)
    · intro hh; exact absurd hh.symm h

theorem bigPos_eq (d q : Fin 16) (r : Fin 128) (hk) :
    bigPos c I (ix2 (⟨d.val * 16 + q.val, hk⟩ : Fin 256) r) = homeF c I (ix2 d r) := by
  have h1 : ∀ k : Fin 256, bigPos c I (ix2 k r) = ∑ x : Fin 16, FloatOps.sitofp (F := Ideal) FTy.f32
          (BitVec.setWidth 32 (IntOp.cmpi CmpIPredicate.eq (BitVec.ofNat 32 (k.val / 16)) (BitVec.ofNat 32 ↑x))) * homeF c I (ix2 x r) := by
    intro k
    pointwise [bigPos, k0_pay45, k0_pay44, k0_pay43, k0_pay42, slotCol]
    refine Finset.sum_congr rfl fun x _ => ?_
    congr 4
    exact div_word k 16 (by have := k.isLt; omega) (by omega) (by omega) _
  rw [h1]
  exact expand_eq (fun x => homeF c I (ix2 x r)) d q

theorem bigHome_eq (d q : Fin 16) (r : Fin 128) (hk) :
    bigHome c I (ix2 (⟨d.val * 16 + q.val, hk⟩ : Fin 256) r) = homeB c I (ix2 d r) := by
  have h1 : ∀ k : Fin 256, bigHome c I (ix2 k r) = ∑ x : Fin 16, FloatOps.sitofp (F := Ideal) FTy.f32
          (BitVec.setWidth 32 (IntOp.cmpi CmpIPredicate.eq (BitVec.ofNat 32 (k.val / 16)) (BitVec.ofNat 32 ↑x))) * homeB c I (ix2 x r) := by
    intro k
    pointwise [bigHome, k0_pay46, k0_pay44, k0_pay43, k0_pay42, slotCol]
    refine Finset.sum_congr rfl fun x _ => ?_
    congr 4
    exact div_word k 16 (by have := k.isLt; omega) (by omega) (by omega) _
  rw [h1]
  exact expand_eq (fun x => homeB c I (ix2 x r)) d q

theorem slotNo_eq (k : Fin 256) : slotNo (ix2 k 0) = BitVec.ofNat 32 (k.val % 16) := by
  pointwise [slotNo, k0_pay47, k0_pay44, k0_pay43, k0_pay42, slotCol]
  exact mod_word k 16 (by have := k.isLt; omega) (by omega) (by omega) _ _

/-- A slot takes the row with its number among the rows for its device. -/
theorem packets_eq (hR : Routed I) (d q : Fin 16) (m : Fin 1152) :
    packets c I (ix3 d q m) = ∑ x : Fin 128,
      (if rowsFor c I d x ∧ Nat.count (rowsFor c I d) x = q then (1 : EReal) else 0) * payRows c I (ix2 x m) := by
  have hd := d.isLt
  have hq := q.isLt
  have h1 : packets c I (ix3 d q m) = ∑ x : Fin 128, FloatOps.sitofp (F := Ideal) FTy.f32
          (BitVec.setWidth 32
            (IntOp.andi
              (BitVec.ofBool (decide (bigPos c I (ix2 (⟨↑d * 16 + ↑q, by omega⟩ : Fin 256) x) =
                    FloatOps.sitofp (F := Ideal) FTy.f32 (slotNo (ix2 (⟨↑d * 16 + ↑q, by omega⟩ : Fin 256) 0)) + 1)))
              (BitVec.ofBool (decide (Ideal.ofBits FTy.f32 1056964608#32 < bigHome c I (ix2 (⟨↑d * 16 + ↑q, by omega⟩ : Fin 256) x)))))) *
        payRows c I (ix2 x m) := by
    pointwise [packets, k0_pay48]
  rw [h1]
  refine Finset.sum_congr rfl fun x _ => ?_
  congr 1
  rw [bit_float, slotNo_eq, nat_float _ _ (by omega), bigPos_eq, bigHome_eq, homeF_eq hR, homeB_eq hR]
  refine if_congr ?_ rfl rfl
  rw [and_bit]
  have e : (((d.val * 16 + q.val) % 16 : ℕ) : EReal) + 1 = ((q.val + 1 : ℕ) : EReal) := by
    rw [show (d.val * 16 + q.val) % 16 = q.val by omega]; push_cast; rfl
  rw [show ((⟨d.val * 16 + q.val, by omega⟩ : Fin 256) : ℕ) = d.val * 16 + q.val from rfl, e, nat_inj, Nat.count_succ]
  by_cases h : rowsFor c I d x
  · simp only [h, if_true, true_and]
    constructor
    · rintro ⟨a, _⟩; omega
    · intro a; exact ⟨by omega, half_lt_one⟩
  · simp only [h, if_false, false_and, iff_false]
    rintro ⟨_, b⟩; exact absurd b half_not_lt

/-- The slot of a token's row. -/
theorem packets_hit (hR : Routed I) {r : Fin 128} {t : Fin 1024} (h : rowTok c I r t) (d q : Fin 16)
    (hd : homeIs d t) (hq : Nat.count (toksFor c I d) t = q) (m : Fin 1152) :
    packets c I (ix3 d q m) = payRows c I (ix2 r m) := by
  rw [packets_eq hR]
  have hc : ∀ u : Fin 1024, rowTok c I (Nat.count (owns c I) u) u →
      Nat.count (rowsFor c I d) (Nat.count (owns c I) u) = Nat.count (toksFor c I d) u :=
    fun u _ => count_rows (owns c I) (homeIs d) u
  refine sum_pick (fun x : Fin 128 => rowsFor c I d x ∧ Nat.count (rowsFor c I d) x = q) (fun x => payRows c I (ix2 x m)) r fun x => ?_
  have hr : rowsFor c I d r := ⟨t, h.1, h.2, hd⟩
  have hrq : Nat.count (rowsFor c I d) r = q := by rw [← h.2, count_rows]; exact hq
  constructor
  · rintro ⟨a, b⟩
    exact Fin.ext (rank_inj _ a hr (b.trans hrq.symm))
  · rintro rfl; exact ⟨hr, hrq⟩

/-- A slot no token takes is all zeros. -/
theorem packets_none (hR : Routed I) (d q : Fin 16)
    (h : ∀ t, toksFor c I d t → Nat.count (toksFor c I d) t ≠ q) (m : Fin 1152) :
    packets c I (ix3 d q m) = 0 := by
  rw [packets_eq hR]
  refine sum_none (fun x : Fin 128 => rowsFor c I d x ∧ Nat.count (rowsFor c I d) x = q) (fun x => payRows c I (ix2 x m)) fun x => ?_
  rintro ⟨⟨t, ht, hr, hd⟩, hq⟩
  refine h t ⟨ht, hd⟩ ?_
  rw [← hq, ← hr, count_rows]; rfl

end Cert.Exchange
-- ==== Proof.Receive.lean ====
module

public import proofs.«01_k».proof.Proof.Packets

/-!
# A device's result from what landed

Row `o` of device `c`'s result is token `64 * c + o`: the token through the shared weights, plus its
gate times the token through its own expert's weights, whichever device owns that expert. Exactly one
slot of all those that landed carries this token; every other slot adds nothing.
-/

@[expose] public section

set_option maxRecDepth 65536

noncomputable section

namespace Cert.Exchange

open Cert.KernelIdeal Cert.KernelIdeal.Gen
open Idealize.ShloMosaic Idealize.ShloMosaic.TcCoe

/-- The shared weights as extended reals. -/
def swAt (I : Blocks Ideal) (k : Fin 512) (m : Fin 1024) : EReal := I.sw (ix2 k m)

/-- A device's own rows start at its first home token. -/
theorem off3_row : ∀ c : Dev nD, k0_off3 c 0 = c.val * 64 := by decide
theorem off3_col : ∀ c : Dev nD, k0_off3 c 1 = 0 := by decide

/-- The token of a result row. -/
def homeTok (c : Dev nD) (o : Fin 64) : Fin 1024 :=
  ⟨c.val * 64 + o.val, by have h : c.val < 16 := c.isLt; have := o.isLt; omega⟩

theorem ownX_eq (c : Dev nD) (I : Blocks Ideal) (o : Fin 64) (k : Fin 512) :
    ownX c I (ix2 o k) = xAt I (homeTok c o) k := by
  refine congrArg I.x (funext fun a => Fin.ext ?_)
  fin_cases a
  · show k0_off3 c 0 + 1 * o.val = c.val * 64 + o.val
    rw [off3_row]; omega
  · show k0_off3 c 1 + 1 * k.val = k.val
    rw [off3_col]; omega

/-- Every device's blocks, with what is common to all spelled once. -/
def blk (X : (cc0_stg0_0 : Ref sig .tc).ty.Contents (Elt Ideal)) (RW : (cc0_stg1_0 : Ref sig .tc).ty.Contents (Elt Ideal))
    (IX : (cc0_stg2_0 : Ref sig .tc).ty.Contents (Elt Ideal)) (EW : Dev nD → (cc0_stg3_0 : Ref sig .tc).ty.Contents (Elt Ideal))
    (SW : (cc0_stg4_0 : Ref sig .tc).ty.Contents (Elt Ideal)) (s : Dev nD) : Blocks Ideal := ⟨X, RW, IX, EW s, SW⟩

/-- The routes fit the buffers: every route is an expert, no device serves more than 128 tokens, and
    no more than 16 from one home. -/
structure Fits (I : Blocks Ideal) : Prop where
  routed : Routed I
  served : ∀ s : Dev nD, Nat.count (owns s I) 1024 ≤ 128
  pair : ∀ (s : Dev nD) (d : Fin 16), Nat.count (toksFor s I d) 1024 ≤ 16

section result
variable (X : (cc0_stg0_0 : Ref sig .tc).ty.Contents (Elt Ideal)) (RW : (cc0_stg1_0 : Ref sig .tc).ty.Contents (Elt Ideal))
    (IX : (cc0_stg2_0 : Ref sig .tc).ty.Contents (Elt Ideal)) (EW : Dev nD → (cc0_stg3_0 : Ref sig .tc).ty.Contents (Elt Ideal))
    (SW : (cc0_stg4_0 : Ref sig .tc).ty.Contents (Elt Ideal))

/-- The slot of a token: the device that serves it, and its number there among its home's. -/
theorem slot_hit {s : Dev nD} (hF : Fits (blk X RW IX EW SW s)) (d q : Fin 16) {t : Fin 1024} (ht : toksFor s (blk X RW IX EW SW s) d t)
    (hq : Nat.count (toksFor s (blk X RW IX EW SW s) d) t = q) :
    (∀ m : Fin 1024, packets s (blk X RW IX EW SW s) (ix3 d q (⟨m, by have := m.isLt; omega⟩ : Fin 1152))
        = probAt (blk X RW IX EW SW s) t (expertOf (blk X RW IX EW SW s) t) * viaExpert (blk X RW IX EW SW s) t m (expertOf (blk X RW IX EW SW s) t % 4))
      ∧ packets s (blk X RW IX EW SW s) (ix3 d q (1024 : Fin 1152)) = (((t : ℕ) % 64 : ℕ) : EReal) := by
  have hr : Nat.count (owns s (blk X RW IX EW SW s)) t < 128 := rank_lt _ ht.1 t.isLt (hF.served s)
  have h : rowTok s (blk X RW IX EW SW s) (⟨Nat.count (owns s (blk X RW IX EW SW s)) t, hr⟩ : Fin 128) t := ⟨ht.1, rfl⟩
  refine ⟨fun m => ?_, ?_⟩
  · rw [packets_hit hF.routed h d q ht.2 hq, payRows_data, payD_eq hF.routed h]
  · rw [packets_hit hF.routed h d q ht.2 hq, payRows_place, rowPlace_eq hF.routed h]

/-- What a device's landing buffer holds is slot by slot what was sent to it. -/
theorem landed_at (pk : Dev nD → S16x16x1152.Idx → Elt Ideal .bf16) (c : Dev nD) (s q : Fin 16) (m : Fin 1152) :
    landed pk c (ix3 s q m) = pk s (ix3 (c : Fin 16) q m) :=
  congrArg (pk s) (funext fun a => match a with
    | ⟨0, _⟩ => rfl
    | ⟨1, _⟩ => rfl
    | ⟨2, _⟩ => rfl)

/-- Slot `x` of all that landed on `c`, at a column. -/
def slotAt (c : Dev nD) (x : Fin 256) (m : Fin 1152) : EReal :=
  packets (⟨x.val / 16, by have := x.isLt; omega⟩ : Fin 16) (blk X RW IX EW SW (⟨x.val / 16, by have := x.isLt; omega⟩ : Fin 16))
    (ix3 (c : Fin 16) (⟨x.val % 16, by omega⟩ : Fin 16) m)

/-- The gated part of a token's result. -/
def routedPart (t m : Fin 1024) (e : ℕ) (s : Dev nD) : EReal :=
  probAt (blk X RW IX EW SW s) t e * viaExpert (blk X RW IX EW SW s) t m (e % 4)

/-- A device's result row: its shared part, and the sum over the slots whose place is the row. -/
theorem result_sum (c : Dev nD) (o : Fin 64) (m : Fin 1024) :
    resultOf c (blk X RW IX EW SW c) (landed (fun s => packets s (blk X RW IX EW SW s)) c) (ix2 o m)
      = (∑ k : Fin 512, xAt (blk X RW IX EW SW c) (homeTok c o) k * swAt (blk X RW IX EW SW c) k m)
        + ∑ x : Fin 256, (if slotAt X RW IX EW SW c x 1024 = ((o.val : ℕ) : EReal) then (1 : EReal) else 0)
          * slotAt X RW IX EW SW c x (⟨m.val, by have := m.isLt; omega⟩ : Fin 1152) := by
  have h1 : resultOf c (blk X RW IX EW SW c) (landed (fun s => packets s (blk X RW IX EW SW s)) c) (ix2 o m)
      = (∑ k : Fin 512, ownX c (blk X RW IX EW SW c) (ix2 o k) * swAt (blk X RW IX EW SW c) k m)
        + ∑ x : Fin 256, FloatOps.sitofp (F := Ideal) FTy.f32 (BitVec.setWidth 32 (BitVec.ofBool
            (decide (landed (fun s => packets s (blk X RW IX EW SW s)) c
                (ix3 (⟨x.val / 16, by have := x.isLt; omega⟩ : Fin 16) (⟨x.val % 16, by omega⟩ : Fin 16) (1024 : Fin 1152))
              = FloatOps.sitofp (F := Ideal) FTy.f32 (BitVec.ofNat 32 o.val)))))
          * landed (fun s => packets s (blk X RW IX EW SW s)) c
                (ix3 (⟨x.val / 16, by have := x.isLt; omega⟩ : Fin 16) (⟨x.val % 16, by omega⟩ : Fin 16) (⟨m.val, by have := m.isLt; omega⟩ : Fin 1152)) := by
    pointwise [resultOf, k0_pay50, k0_pay49]
    rfl
  rw [h1]
  congr 1
  · exact Finset.sum_congr rfl fun k _ => congrArg (· * swAt (blk X RW IX EW SW c) k m) (ownX_eq c (blk X RW IX EW SW c) o k)
  · refine Finset.sum_congr rfl fun x _ => ?_
    rw [bit_float, nat_float _ _ (by have := o.isLt; omega), landed_at, landed_at]
    refine congrArg₂ (· * ·) (if_congr ?_ rfl rfl) rfl
    unfold slotAt
    by_cases h : packets (⟨x.val / 16, by have := x.isLt; omega⟩ : Fin 16) (blk X RW IX EW SW (⟨x.val / 16, by have := x.isLt; omega⟩ : Fin 16))
        (ix3 (c : Fin 16) (⟨x.val % 16, by omega⟩ : Fin 16) (1024 : Fin 1152)) = ((o.val : ℕ) : EReal) <;> simp [h]

theorem result_eq (hF : ∀ s, Fits (blk X RW IX EW SW s)) (c : Dev nD) (o : Fin 64) (m : Fin 1024) (s0 : Dev nD)
    (hs0 : expertOf (blk X RW IX EW SW c) (homeTok c o) / 4 = s0.val) :
    resultOf c (blk X RW IX EW SW c) (landed (fun s => packets s (blk X RW IX EW SW s)) c) (ix2 o m)
      = (∑ k : Fin 512, xAt (blk X RW IX EW SW c) (homeTok c o) k * swAt (blk X RW IX EW SW c) k m)
        + routedPart X RW IX EW SW (homeTok c o) m (expertOf (blk X RW IX EW SW c) (homeTok c o)) s0 := by
  have hc : c.val < 16 := c.isLt
  have hs : s0.val < 16 := s0.isLt
  have ho := o.isLt
  have hto : ((homeTok c o : Fin 1024) : ℕ) = c.val * 64 + o.val := rfl
  have ht : toksFor s0 (blk X RW IX EW SW s0) c.val (homeTok c o) :=
    ⟨⟨(homeTok c o).isLt, hs0⟩, by show _ / 64 = _; rw [hto]; omega⟩
  have hq : Nat.count (toksFor s0 (blk X RW IX EW SW s0) c.val) (homeTok c o) < 16 :=
    rank_lt _ ht (homeTok c o).isLt ((hF s0).pair s0 (c : Fin 16))
  rw [result_sum]
  congr 1
  have hx : s0.val * 16 + Nat.count (toksFor s0 (blk X RW IX EW SW s0) c.val) (homeTok c o) < 256 := by omega
  rw [Finset.sum_eq_single (⟨s0.val * 16 + Nat.count (toksFor s0 (blk X RW IX EW SW s0) c.val) (homeTok c o), hx⟩ : Fin 256)]
  · have hh := slot_hit X RW IX EW SW (hF s0) (c : Fin 16) ⟨_, hq⟩ ht rfl
    have es : ∀ n, slotAt X RW IX EW SW c (⟨s0.val * 16 + Nat.count (toksFor s0 (blk X RW IX EW SW s0) c.val) (homeTok c o), hx⟩ : Fin 256) n
        = packets s0 (blk X RW IX EW SW s0) (ix3 (c : Fin 16) (⟨_, hq⟩ : Fin 16) n) := by
      intro n
      have e1 : (⟨(s0.val * 16 + Nat.count (toksFor s0 (blk X RW IX EW SW s0) c.val) (homeTok c o)) / 16, by omega⟩ : Fin 16) = s0 := Fin.ext (by show (_ : ℕ) / 16 = _; omega)
      have e2 : (⟨(s0.val * 16 + Nat.count (toksFor s0 (blk X RW IX EW SW s0) c.val) (homeTok c o)) % 16, by omega⟩ : Fin 16) = ⟨_, hq⟩ := Fin.ext (by
        show (s0.val * 16 + Nat.count (toksFor s0 (blk X RW IX EW SW s0) c.val) (homeTok c o)) % 16 = Nat.count (toksFor s0 (blk X RW IX EW SW s0) c.val) (homeTok c o); omega)
      unfold slotAt
      simp only [e1, e2]
    rw [es, es, hh.1 m, hh.2, hto, show (c.val * 64 + o.val) % 64 = o.val by omega, if_pos rfl, one_mul]
    rfl
  · intro x _ hne
    have hxl := x.isLt
    by_cases hu : ∃ u, toksFor (⟨x.val / 16, by omega⟩ : Fin 16) (blk X RW IX EW SW (⟨x.val / 16, by omega⟩ : Fin 16)) c.val u
        ∧ Nat.count (toksFor (⟨x.val / 16, by omega⟩ : Fin 16) (blk X RW IX EW SW (⟨x.val / 16, by omega⟩ : Fin 16)) c.val) u = x.val % 16
    · obtain ⟨u, hu, hcu⟩ := hu
      have hul : u < 1024 := hu.1.1
      have hh := slot_hit X RW IX EW SW (hF (⟨x.val / 16, by omega⟩ : Fin 16)) (c : Fin 16) ⟨x.val % 16, by omega⟩ (t := ⟨u, hul⟩) hu hcu
      have e1 : slotAt X RW IX EW SW c x 1024 = ((u % 64 : ℕ) : EReal) := hh.2
      rw [e1, if_neg, zero_mul]
      rw [nat_inj]
      intro hm
      have hd : u / 64 = c.val := hu.2
      have hut : u = (homeTok c o).val := by rw [hto]; omega
      have hown : expertOf (blk X RW IX EW SW c) (homeTok c o) / 4 = x.val / 16 := by
        obtain ⟨h, he⟩ := hu.1
        have : (⟨u, h⟩ : Fin 1024) = homeTok c o := Fin.ext hut
        rw [this] at he
        exact he
      have hsx : (⟨x.val / 16, by omega⟩ : Fin 16) = s0 := Fin.ext (by show x.val / 16 = s0.val; omega)
      have hcu' : Nat.count (toksFor s0 (blk X RW IX EW SW s0) c.val) (homeTok c o) = x.val % 16 := by
        rw [← hcu, hut]; simp only [hsx]
      have hsv : x.val / 16 = s0.val := congrArg Fin.val hsx
      refine hne (Fin.ext ?_)
      show x.val = s0.val * 16 + Nat.count (toksFor s0 (blk X RW IX EW SW s0) c.val) (homeTok c o)
      omega
    · have hn := packets_none (hF (⟨x.val / 16, by omega⟩ : Fin 16)).routed (c : Fin 16) ⟨x.val % 16, by omega⟩
        (fun t h1 h2 => hu ⟨t, h1, h2⟩) (c := (⟨x.val / 16, by omega⟩ : Fin 16)) (⟨m.val, by have := m.isLt; omega⟩ : Fin 1152)
      have e1 : slotAt X RW IX EW SW c x (⟨m.val, by have := m.isLt; omega⟩ : Fin 1152) = 0 := hn
      rw [e1, mul_zero]
  · intro h; exact absurd (Finset.mem_univ _) h

end result

end Cert.Exchange
-- ==== Proof.Pre.lean ====
module

public import proofs.«01_k».proof.Proof.Receive
public import proofs.«01_k».proof.Pre_fits_KernelIdeal
public import proofs.«01_k».proof.Pre_fits_ReferenceIdeal

@[expose] public section

set_option maxRecDepth 65536

/-!
# The precondition read

Every entry of the routing vector is one of the 64 experts, no device serves more than 128 tokens, and no pair of
devices carries more than 16 from one to the other: the two predicates' side conditions, and what `fits` says.
-/

noncomputable section

namespace Cert.Exchange

open Idealize.ShloMosaic Idealize.ShloMosaic.TcCoe

/-- The side conditions of the predicate over the kernel's arguments. -/
instance fitsKernelFacts : Cert.Pre_fits_KernelIdeal.Facts where
  bcast_S_S1024x1 := by decide
  bcast_S_S16 := by decide
  bcast_S16_S1x16_1 := by decide
  bcast_S1024x1_S1024x16_0_1 := by decide
  bcast_S1x16_S1024x16_0_1 := by decide
  reducesTo_S1024x16_S16_d0 := by decide
  h_S_ := by decide
  shapeCasts_S1024x16_S16x64x16 := by decide
  reducesTo_S16x64x16_S16x16_d1 := by decide
  bcast_S_S16x16 := by decide
  reducesTo_S1024x1_S_d0_1 := by decide
  reducesTo_S16_S_d0 := by decide
  reducesTo_S16x16_S_d0_1 := by decide

/-- The side conditions of the predicate over the reference's arguments. -/
instance fitsReferenceFacts : Cert.Pre_fits_ReferenceIdeal.Facts where
  bcast_S_S1024x1 := by decide
  bcast_S_S16 := by decide
  bcast_S16_S1x16_1 := by decide
  bcast_S1024x1_S1024x16_0_1 := by decide
  bcast_S1x16_S1024x16_0_1 := by decide
  reducesTo_S1024x16_S16_d0 := by decide
  h_S_ := by decide
  shapeCasts_S1024x16_S16x64x16 := by decide
  reducesTo_S16x64x16_S16x16_d1 := by decide
  bcast_S_S16x16 := by decide
  reducesTo_S1024x1_S_d0_1 := by decide
  reducesTo_S16_S_d0 := by decide
  reducesTo_S16x16_S_d0_1 := by decide

open Cert.Pre_fits_KernelIdeal

/-- A conjunction of two bits that holds, of each. -/
theorem both {a b : BitVec 1} (h : IntOp.andi a b = 1#1) : a = 1#1 ∧ b = 1#1 := by
  revert a b
  decide

/-- A conjunction of bits that holds, of each bit. -/
theorem all_of_fold {ι : Type} [DecidableEq ι] (f : ι → BitVec 1) (s : Finset ι)
    (h : Finset.fold IntOp.andi (1#1) f s = 1#1) : ∀ i ∈ s, f i = 1#1 := by
  induction s using Finset.induction_on with
  | empty => intro i hi; exact absurd hi (Finset.notMem_empty i)
  | insert a s ha ih =>
    rw [Finset.fold_insert ha] at h
    obtain ⟨h1, h2⟩ := both h
    intro i hi
    rcases Finset.mem_insert.mp hi with rfl | hi
    · exact h1
    · exact ih h2 i hi

/-- A bit as a float. -/
theorem bit_unsigned (b : BitVec 1) : FloatOps.uitofp (F := Ideal) FTy.f32 b = if b = 1#1 then (1 : EReal) else 0 := by
  show (((b.toNat : ℕ) : ℝ) : EReal) = _
  revert b
  have h0 : (((0#1).toNat : ℕ) : ℝ) = 0 := by simp
  have h1 : (((1#1).toNat : ℕ) : ℝ) = 1 := by simp
  intro b
  have hb : b = 0#1 ∨ b = 1#1 := by revert b; decide
  rcases hb with rfl | rfl
  · rw [h0, if_neg (by decide)]; rfl
  · rw [h1, if_pos rfl]; rfl

theorem c128 : Ideal.ofBits FTy.f32 1124073472#32 = ((128 : ℕ) : EReal) := by
  simp [Ideal.ofBits, Ideal.ieee, -EReal.coe_mul]
  norm_num
  rfl
theorem c16 : Ideal.ofBits FTy.f32 1098907648#32 = ((16 : ℕ) : EReal) := by
  simp [Ideal.ofBits, Ideal.ieee, -EReal.coe_mul]
  norm_num
  rfl

/-- A bit of a decided proposition that is set. -/
theorem of_bit {p : Prop} [Decidable p] (h : BitVec.ofBool (decide p) = 1#1) : p := by
  by_contra hp
  rw [decide_eq_false hp] at h
  exact absurd h (by decide)

/-- The mask of a device's tokens: the bit of a token says whether the device owns the token's expert. -/
abbrev maskBit (w : BitVec 32) (d : ℕ) : BitVec 1 :=
  IntOp.andi (IntOp.cmpi CmpIPredicate.sge w (IntOp.muli (4#32) (BitVec.ofNat 32 d)))
    (IntOp.cmpi CmpIPredicate.slt w (IntOp.addi (IntOp.muli (4#32) (BitVec.ofNat 32 d)) 4#32))

theorem maskBit_iff (w : BitVec 32) (d : ℕ) (hw : w.toNat < 64) (hd : d < 16) : maskBit w d = 1#1 ↔ w.toNat / 4 = d := by
  have h1 : (IntOp.muli (4#32) (BitVec.ofNat 32 d)).toNat = 4 * d := by
    show (4#32 * BitVec.ofNat 32 d).toNat = _
    rw [BitVec.toNat_mul, BitVec.toNat_ofNat, BitVec.toNat_ofNat]
    omega
  have h2 : (IntOp.addi (IntOp.muli (4#32) (BitVec.ofNat 32 d)) 4#32).toNat = 4 * d + 4 := by
    show (IntOp.muli (4#32) (BitVec.ofNat 32 d) + 4#32).toNat = _
    rw [BitVec.toNat_add, h1, BitVec.toNat_ofNat]
    omega
  unfold maskBit
  rw [sge_small _ _ (by omega) (by omega), slt_small _ _ (by omega) (by omega), and_bit, h1, h2]
  omega

/-- Counting what lies in a window alone. -/
theorem count_window (p : ℕ → Prop) [DecidablePred p] (a b n : ℕ) (lo : ∀ t, t < a → ¬ p t)
    (hi : ∀ t, a + b ≤ t → ¬ p t) : Nat.count p (a + b + n) = Nat.count (fun k => p (a + k)) b := by
  rw [Nat.count_add, Nat.count_add, Nat.count_of_forall_not (p := p) (n := a) (fun {k} hk => lo k hk),
    Nat.count_of_forall_not (p := fun k => p (a + b + k)) (n := n) (fun {k} _ => hi (a + b + k) (by omega))]
  omega

variable (X : FVec Ideal S1024x512 .bf16) (RW : FVec Ideal S512x64 .bf16) (IX : IVec S1024x1 32)
  (EW : FVec Ideal S4x512x1024 .bf16) (SW : FVec Ideal S512x1024 .bf16)

/-- The predicate's three conjuncts. -/
theorem fits_parts (h : fn (F := Ideal) X RW IX EW SW = fun _ => 1#1) :
    (∀ t : Fin 1024, (IX (ix2 t 0)).toNat < 64)
    ∧ (∀ d : Fin 16, ∑ t : Fin 1024, (if maskBit (IX (ix2 t 0)) d = 1#1 then (1 : EReal) else 0) ≤ ((128 : ℕ) : EReal))
    ∧ ∀ d s : Fin 16, ∑ u : Fin 64, (if maskBit (IX (ix2 (⟨d * 64 + u, by omega⟩ : Fin 1024) 0)) s = 1#1 then (1 : EReal) else 0)
        ≤ ((16 : ℕ) : EReal) := by
  have h0 : fn (F := Ideal) X RW IX EW SW ix0 = IntOp.andi
      (IntOp.andi
        (Finset.fold IntOp.andi (1#1) (fun k : Fin 1024 × Fin 1 =>
            IntOp.andi (IntOp.cmpi CmpIPredicate.sge (IX (ix2 k.1 k.2)) 0#32)
              (IntOp.cmpi CmpIPredicate.slt (IX (ix2 k.1 k.2)) 64#32)) Finset.univ)
        (Finset.fold IntOp.andi (1#1) (fun d : Fin 16 => BitVec.ofBool (decide
            (∑ t : Fin 1024, (FloatOps.uitofp (F := Ideal) FTy.f32 (maskBit (IX (ix2 t 0)) d) : EReal)
              ≤ Ideal.ofBits FTy.f32 1124073472#32))) Finset.univ))
      (Finset.fold IntOp.andi (1#1) (fun x : Fin 16 × Fin 16 => BitVec.ofBool (decide
          (∑ u : Fin 64, (FloatOps.uitofp (F := Ideal) FTy.f32
              (maskBit (IX (ix2 (⟨x.1 * 64 + u, by omega⟩ : Fin 1024) 0)) x.2) : EReal)
            ≤ Ideal.ofBits FTy.f32 1098907648#32))) Finset.univ) := by
    pointwise [fn, fn_part1]
  rw [h] at h0
  obtain ⟨h12, h3⟩ := both h0.symm
  obtain ⟨h1, h2⟩ := both h12
  refine ⟨fun t => ?_, fun d => ?_, fun d s => ?_⟩
  · obtain ⟨ha, hb⟩ := both (all_of_fold _ _ h1 (t, 0) (Finset.mem_univ _))
    simp only [IntOp.cmpi, BitVec.sle_eq_decide, BitVec.slt_eq_decide] at ha hb
    have ha := of_bit ha
    have hb := of_bit hb
    have e0 : (0#32).toInt = 0 := rfl
    have e64 : (64#32).toInt = 64 := rfl
    rw [e0] at ha
    rw [e64] at hb
    have := BitVec.toInt_eq_toNat_cond (IX (ix2 t 0))
    split at this <;> omega
  · have := of_bit (all_of_fold _ _ h2 d (Finset.mem_univ _))
    simp only [bit_unsigned, c128] at this
    exact this
  · have := of_bit (all_of_fold _ _ h3 (d, s) (Finset.mem_univ _))
    simp only [bit_unsigned, c16] at this
    exact this

/-- What the precondition says of a device's blocks. -/
theorem fits_of (h : fn (F := Ideal) X RW IX EW SW = fun _ => 1#1) (I : Blocks Ideal)
    (hI : ∀ t : Fin 1024, (I.ix (ix2 t 0) : BitVec 32) = IX (ix2 t 0)) : Fits I := by
  obtain ⟨h1, h2, h3⟩ := fits_parts X RW IX EW SW h
  have hR : Routed I := fun t => by unfold expertOf; rw [hI]; exact h1 t
  have own : ∀ (d : Dev Cert.KernelIdeal.nD) (t : Fin 1024), maskBit (IX (ix2 t 0)) d.val = 1#1 ↔ owns d I t := fun d t => by
    have hd : d.val < 16 := d.isLt
    rw [maskBit_iff _ _ (h1 t) hd, ← hI]
    exact ⟨fun e => ⟨t.isLt, e⟩, fun ⟨_, e⟩ => e⟩
  refine ⟨hR, fun s => ?_, fun s d => ?_⟩
  · have := h2 s
    simp only [own s] at this
    rw [sum_count (owns s I) 1024] at this
    exact (nat_le _ _).mp this
  · have := h3 d s
    have hd : d.val < 16 := d.isLt
    have e : ∀ u : Fin 64, (maskBit (IX (ix2 (⟨d * 64 + u, by omega⟩ : Fin 1024) 0)) s.val = 1#1)
        ↔ (fun k => toksFor s I d (d * 64 + k)) u := fun u => by
      have hu := u.isLt
      refine (own s _).trans ⟨fun o => ⟨o, ?_⟩, fun o => o.1⟩
      show (d.val * 64 + u) / 64 = d.val
      omega
    simp only [e] at this
    rw [sum_count (fun k => toksFor s I d (d * 64 + k)) 64] at this
    have w := count_window (toksFor s I d) (d * 64) 64 (1024 - (d * 64 + 64))
      (fun t ht o => by have : t / 64 = d.val := o.2; omega) (fun t ht o => by have : t / 64 = d.val := o.2; omega)
    rw [show d.val * 64 + 64 + (1024 - (d.val * 64 + 64)) = 1024 by omega] at w
    rw [w]
    exact (nat_le _ _).mp this

end Cert.Exchange
-- ==== Proof.Reference.lean ====
module

public import proofs.«01_k».proof.Proof.Gen.ReferenceIdeal.Run
public import Idealize.ShloMosaic.Lib.Pointwise

@[expose] public section

set_option maxRecDepth 65536

/-!
# The reference at an element

The reference's term, read over the ideal instance at row `t` and column `m`: the shared product plus the gate of
the expert the token names times that expert's product. Only an index in `[0, 64)` is read here.
-/

noncomputable section

namespace Cert.Plain

open Cert.ReferenceIdeal Cert.ReferenceIdeal.Gen
open Idealize.ShloMosaic Idealize.ShloMosaic.TcCoe

variable (X : FVec Ideal S1024x512 .bf16) (RW : FVec Ideal S512x64 .bf16) (IX : IVec S1024x1 32)
  (W : FVec Ideal S64x512x1024 .bf16) (SW : FVec Ideal S512x1024 .bf16)

/-- The router's scores. -/
def scores : FVec Ideal S1024x64 .f32 :=
  Host.dotGeneral dot_S1024x512_S512x64_S1024x64_1_0_0_1_n_n none (extf .f32 X bitsLt_bf16_f32) (extf .f32 RW bitsLt_bf16_f32)

/-- The exponentials of the scores less their row's greatest. -/
def expos : FVec Ideal S1024x64 .f32 :=
  Host.exp (subf (scores X RW) (broadcastInDim S1024x64 ![0, 1] bcast_S1024x1_S1024x64_0_1 (broadcastInDim S1024x1 ![0] bcast_S1024_S1024x1_0 (Host.reduce FloatOps.maximumf (scores X RW) (constant S_ .f32 0xFF800000#32) reducesTo_S1024x64_S1024_d1 h_S_))))

/-- The router's probabilities. -/
def probs : FVec Ideal S1024x64 .f32 :=
  Host.divf (expos X RW) (broadcastInDim S1024x64 ![0, 1] bcast_S1024x1_S1024x64_0_1 (broadcastInDim S1024x1 ![0] bcast_S1024_S1024x1_0 (Host.reduceAdd (expos X RW) (constant S_ .f32 0x00000000#32) reducesTo_S1024x64_S1024_d1 h_S_)))

/-- The indices the gate is taken at, a negative one moved up by 64. -/
def gateIx : IVec S1024x1x1 32 :=
  shapeCast _ (select (cmpi .slt IX (broadcastInDim S1024x1 ![] bcast_S_S1024x1 (constantI S_ 32 0#32))) (addi IX (broadcastInDim S1024x1 ![] bcast_S_S1024x1 (constantI S_ 32 64#32))) IX) shapeCasts_S1024x1_S1024x1x1

/-- Whether a token's index is one of the experts. -/
def gateOk : IVec S1024x1 1 :=
  Host.reduce IntOp.andi (andi (cmpi .sge (gateIx IX) (broadcastInDim S1024x1x1 ![] bcast_S_S1024x1x1 (constantI S_ 32 0#32))) (cmpi .sle (gateIx IX) (broadcastInDim S1024x1x1 ![0, 1, 2] bcast_S1x1x1_S1024x1x1_0_1_2 (broadcastInDim S1x1x1 ![2] bcast_S1_S1x1x1_2 (constantI S1 32 63#32))))) (constantI S_ 1 1#1) reducesTo_S1024x1x1_S1024x1_d2 h_S_

/-- The gate of each token. -/
def gates : FVec Ideal S1024x1 .f32 :=
  select (gateOk IX) (Host.gather gather_S1024x64_S1024x1x1_S1024x1_n_1_0_0_1_2_11 (probs X RW) (gateIx IX)) (broadcastInDim S1024x1 ![] bcast_S_S1024x1 (constant S_ .f32 0x7FC00000#32))

/-- The indices the experts' weights are taken at. -/
def weightIx : IVec S1024x1 32 :=
  broadcastInDim S1024x1 ![0] bcast_S1024_S1024x1_0 (select (cmpi .slt (shapeCast _ IX shapeCasts_S1024x1_S1024) (broadcastInDim S1024 ![] bcast_S_S1024 (constantI S_ 32 0#32))) (addi (shapeCast _ IX shapeCasts_S1024x1_S1024) (broadcastInDim S1024 ![] bcast_S_S1024 (constantI S_ 32 64#32))) (shapeCast _ IX shapeCasts_S1024x1_S1024))

/-- Each token's expert's weights. -/
def weights : FVec Ideal S1024x512x1024 .f32 :=
  Host.gather gather_S64x512x1024_S1024x1_S1024x512x1024_12_0_n_n_0_1_15121024 (extf .f32 W bitsLt_bf16_f32) (weightIx IX)

/-- The product with the shared weights. -/
def shared : FVec Ideal S1024x1024 .f32 :=
  Host.dotGeneral dot_S1024x512_S512x1024_S1024x1024_1_0_0_1_n_n none (extf .f32 X bitsLt_bf16_f32) (extf .f32 SW bitsLt_bf16_f32)

/-- Each token's product with its expert's weights. -/
def experts : FVec Ideal S1024x1024 .f32 :=
  Host.dotGeneral dot_S1024x512_S1024x512x1024_S1024x1024_1_1_n_2_0_0 none (extf .f32 X bitsLt_bf16_f32) (weights IX W)

/-- The reference's result. -/
def REF : FVec Ideal S1024x1024 .f32 :=
  addf (shared X SW) (mulf (broadcastInDim S1024x1024 ![0, 1] bcast_S1024x1_S1024x1024_0_1 (gates X RW IX)) (experts X IX W))

/-- A word below 64 is read, signed, as itself. -/
theorem small_int (w : BitVec 32) (h : w.toNat < 64) : w.toInt = (w.toNat : ℤ) := by
  rw [BitVec.toInt_eq_toNat_cond, if_pos (by omega)]

/-- A word below 64 is not moved up. -/
theorem kept (w : BitVec 32) (h : w.toNat < 64) :
    Scalar.select (IntOp.cmpi CmpIPredicate.slt w 0#32) (IntOp.addi w 64#32) w = w := by
  have h0 : IntOp.cmpi CmpIPredicate.slt w 0#32 = 0#1 := by
    have e := small_int w h
    have e0 : (0#32).toInt = 0 := rfl
    simp only [IntOp.cmpi, BitVec.slt, e, e0]
    have : ¬ ((w.toNat : ℤ) < 0) := by omega
    rw [decide_eq_false this]
    rfl
  rw [h0]
  rfl

/-- A word below 64 passes both bounds. -/
theorem passes (w : BitVec 32) (h : w.toNat < 64) :
    IntOp.andi (IntOp.cmpi CmpIPredicate.sge w 0#32) (IntOp.cmpi CmpIPredicate.sle w 63#32) = 1#1 := by
  have e := small_int w h
  have h1 : IntOp.cmpi CmpIPredicate.sge w 0#32 = 1#1 := by
    simp [IntOp.cmpi, BitVec.sle, e]
  have h2 : IntOp.cmpi CmpIPredicate.sle w 63#32 = 1#1 := by
    have e3 : (63#32).toInt = 63 := rfl
    simp only [IntOp.cmpi, BitVec.sle, e, e3]
    have : ((w.toNat : ℤ) ≤ 63) := by omega
    simp [this]
  rw [h1, h2]
  rfl

variable {IX} (t : Fin 1024) (hix : (IX (ix2 t 0)).toNat < 64)

include hix in
theorem gateIx_eq : gateIx IX (ix3 t 0 0) = IX (ix2 t 0) := by
  have h : gateIx IX (ix3 t 0 0) = Scalar.select (IntOp.cmpi CmpIPredicate.slt (IX (ix2 t 0)) 0#32)
      (IntOp.addi (IX (ix2 t 0)) 64#32) (IX (ix2 t 0)) := by pointwise [gateIx]
  rw [h, kept _ hix]

include hix in
theorem weightIx_eq : weightIx IX (ix2 t 0) = IX (ix2 t 0) := by
  have h : weightIx IX (ix2 t 0) = Scalar.select (IntOp.cmpi CmpIPredicate.slt (IX (ix2 t 0)) 0#32)
      (IntOp.addi (IX (ix2 t 0)) 64#32) (IX (ix2 t 0)) := by pointwise [weightIx]
  rw [h, kept _ hix]

include hix in
theorem gateOk_eq : gateOk IX (ix2 t 0) = 1#1 := by
  have h : gateOk IX (ix2 t 0) = Finset.fold IntOp.andi (1#1) (fun _ : Fin 1 =>
      IntOp.andi (IntOp.cmpi CmpIPredicate.sge (gateIx IX (ix3 t 0 0)) 0#32)
        (IntOp.cmpi CmpIPredicate.sle (gateIx IX (ix3 t 0 0)) 63#32)) Finset.univ := by
    pointwise [gateOk, gateIx]
  rw [h, gateIx_eq t hix, passes _ hix]
  rfl

include hix in
theorem gather_gate (P : FVec Ideal S1024x64 .f32) :
    Host.gather gather_S1024x64_S1024x1x1_S1024x1_n_1_0_0_1_2_11 P (gateIx IX) (ix2 t 0)
      = P (ix2 t ⟨(IX (ix2 t 0)).toNat, hix⟩) := by
  unfold Host.gather
  congr 1
  funext a
  refine Fin.ext ?_
  show (gather_S1024x64_S1024x1x1_S1024x1_n_1_0_0_1_2_11).start (ix2 t 0) (gateIx IX) a
    + (gather_S1024x64_S1024x1x1_S1024x1_n_1_0_0_1_2_11).batchCoord (ix2 t 0) a
    + (gather_S1024x64_S1024x1x1_S1024x1_n_1_0_0_1_2_11).offCoord (ix2 t 0) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    have hm : (0 : Fin 2) ∈ gather_S1024x64_S1024x1x1_S1024x1_n_1_0_0_1_2_11.operandBatchingDims := List.mem_singleton.mpr rfl
    rw [dif_pos hm]
    rfl
  · rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    have hm : (1 : Fin 2) ∈ gather_S1024x64_S1024x1x1_S1024x1_n_1_0_0_1_2_11.startIndexMap := List.mem_singleton.mpr rfl
    rw [dif_pos hm]
    have hsi : (gather_S1024x64_S1024x1x1_S1024x1_n_1_0_0_1_2_11).siIdx (ix2 t 0)
        ⟨List.idxOf (1 : Fin 2) (gather_S1024x64_S1024x1x1_S1024x1_n_1_0_0_1_2_11).startIndexMap,
          List.idxOf_lt_length_iff.2 (List.mem_singleton.mpr rfl)⟩ = ix3 t 0 0 := by
      funext b
      refine Fin.ext ?_
      match b with
      | ⟨0, _⟩ => rfl
      | ⟨1, _⟩ => rfl
      | ⟨2, _⟩ => rfl
    rw [hsi, gateIx_eq t hix, small_int _ hix]
    show min (IX (ix2 t 0)).toNat 63 = (IX (ix2 t 0)).toNat
    omega

include hix in
theorem weights_eq (k : Fin 512) (m : Fin 1024) :
    weights IX W (ix3 t k m) = W (ix3 ⟨(IX (ix2 t 0)).toNat, hix⟩ k m) := by
  unfold weights Host.gather
  show W _ = W _
  congr 1
  funext a
  refine Fin.ext ?_
  show (gather_S64x512x1024_S1024x1_S1024x512x1024_12_0_n_n_0_1_15121024).start (ix3 t k m) (weightIx IX) a
    + (gather_S64x512x1024_S1024x1_S1024x512x1024_12_0_n_n_0_1_15121024).batchCoord (ix3 t k m) a
    + (gather_S64x512x1024_S1024x1_S1024x512x1024_12_0_n_n_0_1_15121024).offCoord (ix3 t k m) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    show (gather_S64x512x1024_S1024x1_S1024x512x1024_12_0_n_n_0_1_15121024).start (ix3 t k m) (weightIx IX) (0 : Fin 3) + 0 + 0 = _
    have hm : (0 : Fin 3) ∈ gather_S64x512x1024_S1024x1_S1024x512x1024_12_0_n_n_0_1_15121024.startIndexMap := List.mem_singleton.mpr rfl
    unfold GatherDims.start
    rw [dif_pos hm]
    have hsi : (gather_S64x512x1024_S1024x1_S1024x512x1024_12_0_n_n_0_1_15121024).siIdx (ix3 t k m)
        ⟨List.idxOf (0 : Fin 3) (gather_S64x512x1024_S1024x1_S1024x512x1024_12_0_n_n_0_1_15121024).startIndexMap,
          List.idxOf_lt_length_iff.2 (List.mem_singleton.mpr rfl)⟩ = ix2 t 0 := by
      funext b
      refine Fin.ext ?_
      match b with
      | ⟨0, _⟩ => rfl
      | ⟨1, _⟩ => rfl
    show min ((weightIx IX) ((gather_S64x512x1024_S1024x1_S1024x512x1024_12_0_n_n_0_1_15121024).siIdx (ix3 t k m)
        ⟨List.idxOf (0 : Fin 3) (gather_S64x512x1024_S1024x1_S1024x512x1024_12_0_n_n_0_1_15121024).startIndexMap,
          List.idxOf_lt_length_iff.2 (List.mem_singleton.mpr rfl)⟩)).toInt.toNat 63 = (IX (ix2 t 0)).toNat
    rw [hsi, weightIx_eq t hix, small_int _ hix]
    show min (IX (ix2 t 0)).toNat 63 = (IX (ix2 t 0)).toNat
    omega
  | ⟨1, _⟩ =>
    have hn : (1 : Fin 3) ∉ gather_S64x512x1024_S1024x1_S1024x512x1024_12_0_n_n_0_1_15121024.startIndexMap := fun h =>
      absurd (List.mem_singleton.mp h) (by decide)
    have hs : (gather_S64x512x1024_S1024x1_S1024x512x1024_12_0_n_n_0_1_15121024).start (ix3 t k m) (weightIx IX) (1 : Fin 3) = 0 := by
      unfold GatherDims.start
      rw [dif_neg hn]
    have hk : (1 : Fin 3) ∈ gather_S64x512x1024_S1024x1_S1024x512x1024_12_0_n_n_0_1_15121024.sKept :=
      (GatherDims.mem_sKept _ _).mpr ⟨fun h => absurd (List.mem_singleton.mp h) (by decide), List.not_mem_nil⟩
    have ho : (gather_S64x512x1024_S1024x1_S1024x512x1024_12_0_n_n_0_1_15121024).offCoord (ix3 t k m) (1 : Fin 3) = k.val := by
      unfold GatherDims.offCoord
      rw [dif_pos hk]
      rfl
    show _ + 0 + (gather_S64x512x1024_S1024x1_S1024x512x1024_12_0_n_n_0_1_15121024).offCoord (ix3 t k m) (1 : Fin 3) = _
    rw [ho]
    show (gather_S64x512x1024_S1024x1_S1024x512x1024_12_0_n_n_0_1_15121024).start (ix3 t k m) (weightIx IX) (1 : Fin 3) + 0 + _ = _
    rw [hs]
    show 0 + 0 + k.val = k.val
    omega
  | ⟨2, _⟩ =>
    have hn : (2 : Fin 3) ∉ gather_S64x512x1024_S1024x1_S1024x512x1024_12_0_n_n_0_1_15121024.startIndexMap := fun h =>
      absurd (List.mem_singleton.mp h) (by decide)
    have hs : (gather_S64x512x1024_S1024x1_S1024x512x1024_12_0_n_n_0_1_15121024).start (ix3 t k m) (weightIx IX) (2 : Fin 3) = 0 := by
      unfold GatherDims.start
      rw [dif_neg hn]
    have hk : (2 : Fin 3) ∈ gather_S64x512x1024_S1024x1_S1024x512x1024_12_0_n_n_0_1_15121024.sKept :=
      (GatherDims.mem_sKept _ _).mpr ⟨fun h => absurd (List.mem_singleton.mp h) (by decide), List.not_mem_nil⟩
    have ho : (gather_S64x512x1024_S1024x1_S1024x512x1024_12_0_n_n_0_1_15121024).offCoord (ix3 t k m) (2 : Fin 3) = m.val := by
      unfold GatherDims.offCoord
      rw [dif_pos hk]
      rfl
    show _ + 0 + (gather_S64x512x1024_S1024x1_S1024x512x1024_12_0_n_n_0_1_15121024).offCoord (ix3 t k m) (2 : Fin 3) = _
    rw [ho]
    show (gather_S64x512x1024_S1024x1_S1024x512x1024_12_0_n_n_0_1_15121024).start (ix3 t k m) (weightIx IX) (2 : Fin 3) + 0 + _ = _
    rw [hs]
    show 0 + 0 + m.val = m.val
    omega

include hix in
theorem gates_eq : gates X RW IX (ix2 t 0) = probs X RW (ix2 t ⟨(IX (ix2 t 0)).toNat, hix⟩) := by
  show Scalar.select (gateOk IX (ix2 t 0))
    (Host.gather gather_S1024x64_S1024x1x1_S1024x1_n_1_0_0_1_2_11 (probs X RW) (gateIx IX) (ix2 t 0)) _ = _
  rw [gateOk_eq t hix, gather_gate t hix]
  rfl

/-- An entry of the tokens, of an expert's weights and of the shared weights, as extended reals. -/
def xs (t : Fin 1024) (k : Fin 512) : EReal := X (ix2 t k)
@[inherit_doc xs] def ws (e : Fin 64) (k : Fin 512) (m : Fin 1024) : EReal := W (ix3 e k m)
@[inherit_doc xs] def ss (k : Fin 512) (m : Fin 1024) : EReal := SW (ix2 k m)

include hix in
/-- The reference at row `t`, column `m`. -/
theorem REF_eq (m : Fin 1024) :
    REF X RW IX W SW (ix2 t m)
      = (∑ k, xs X t k * ss SW k m)
        + (probs X RW (ix2 t ⟨(IX (ix2 t 0)).toNat, hix⟩) : EReal)
          * ∑ k, xs X t k * ws W ⟨(IX (ix2 t 0)).toNat, hix⟩ k m := by
  have h : REF X RW IX W SW (ix2 t m) = (∑ k, xs X t k * ss SW k m)
      + (gates X RW IX (ix2 t 0) : EReal) * ∑ k, xs X t k * (weights IX W (ix3 t k m) : EReal) := by
    pointwise [REF, shared, experts]
    rfl
  rw [h, gates_eq X RW t hix]
  simp only [weights_eq W t hix]
  rfl

end Cert.Plain
-- ==== Proof.Algebraic.lean ====
module

public import proofs.«01_k».proof.Proof.Frames
public import proofs.«01_k».proof.Proof.Pre
public import proofs.«01_k».proof.Proof.Reference

@[expose] public section

set_option maxRecDepth 65536

/-!
# Each device's result is its block of the reference's

The windows are the whole arrays; the routing weights' blocks are the reference's, four experts to a device; and the
kernel's element at row `o` of device `c` is the reference's at row `64 c + o`.
-/

noncomputable section

namespace Cert.Exchange

open Cert.KernelIdeal Cert.KernelIdeal.Gen
open Idealize.ShloMosaic Idealize.ShloMosaic.TcCoe Idealize.SL.Sem

section blocks
variable {F : FTy → Type} [FloatOps F] (m : (ℓ : Loc nD τ sig) → Buf (Elt F) ℓ) (ρ : Dev nD → PrngReg)

/-- A window's block is its whole array. -/
theorem blocks_eq (c : Dev nD) : blocksOf m c =
    ⟨m ((c.tc : Thread nD τ).loc main_arg0), m ((c.tc : Thread nD τ).loc main_arg1), m ((c.tc : Thread nD τ).loc main_arg2),
      m ((c.tc : Thread nD τ).loc main_arg3), m ((c.tc : Thread nD τ).loc main_arg4)⟩ := by
  have h0 : (blocksOf m c).x = m ((c.tc : Thread nD τ).loc main_arg0) := by
    have h := Memref.read_access_unit_zero (Elt F) main_arg0 (off := fun a => (win0_0.index t0_0) a * main_arg0.ty.shape.size a)
      (funext fun a => by fin_cases a <;> rfl) (fun a => by fin_cases a <;> decide) (m ((c.tc : Thread nD τ).loc main_arg0))
    exact h
  have h1 : (blocksOf m c).rw = m ((c.tc : Thread nD τ).loc main_arg1) := by
    have h := Memref.read_access_unit_zero (Elt F) main_arg1 (off := fun a => (win0_1.index t0_0) a * main_arg1.ty.shape.size a)
      (funext fun a => by fin_cases a <;> rfl) (fun a => by fin_cases a <;> decide) (m ((c.tc : Thread nD τ).loc main_arg1))
    exact h
  have h2 : (blocksOf m c).ix = m ((c.tc : Thread nD τ).loc main_arg2) := by
    have h := Memref.read_access_unit_zero (Elt F) main_arg2 (off := fun a => (win0_2.index t0_0) a * main_arg2.ty.shape.size a)
      (funext fun a => by fin_cases a <;> rfl) (fun a => by fin_cases a <;> decide) (m ((c.tc : Thread nD τ).loc main_arg2))
    exact h
  have h3 : (blocksOf m c).ew = m ((c.tc : Thread nD τ).loc main_arg3) := by
    have h := Memref.read_access_unit_zero (Elt F) main_arg3 (off := fun a => (win0_3.index t0_0) a * main_arg3.ty.shape.size a)
      (funext fun a => by fin_cases a <;> rfl) (fun a => by fin_cases a <;> decide) (m ((c.tc : Thread nD τ).loc main_arg3))
    exact h
  have h4 : (blocksOf m c).sw = m ((c.tc : Thread nD τ).loc main_arg4) := by
    have h := Memref.read_access_unit_zero (Elt F) main_arg4 (off := fun a => (win0_4.index t0_0) a * main_arg4.ty.shape.size a)
      (funext fun a => by fin_cases a <;> rfl) (fun a => by fin_cases a <;> decide) (m ((c.tc : Thread nD τ).loc main_arg4))
    exact h
  rw [← h0, ← h1, ← h2, ← h3, ← h4]

theorem finalA_eq (c : Dev nD) : finalA m ρ c (5 : Fin 6) = outOf m c := by
  have h := Memref.read_access_unit_zero (Elt F) main_v1 (off := fun a => (win0_5.index t0_0) a * main_v1.ty.shape.size a)
    (funext fun a => by fin_cases a <;> rfl) (fun a => by fin_cases a <;> decide)
    (finalA m ρ c (5 : Fin 6))
  exact h.symm.trans (finalA_out m ρ c)

end blocks

section value
variable (X : FVec Ideal S1024x512 .bf16) (RW : FVec Ideal S512x64 .bf16) (IX : IVec S1024x1 32)
  (W : FVec Ideal ⟨3, ![64, 512, 1024]⟩ .bf16) (SW : FVec Ideal S512x1024 .bf16)

/-- A device's experts: four of the sixty-four. -/
def expertsOf (s : Dev nD) : FVec Ideal S4x512x1024 .bf16 :=
  Layout.block ⟨3, ![4, 512, 1024]⟩ ⟨3, ![64, 512, 1024]⟩ 0 16 s W

/-- A device's blocks, of the reference's arrays. -/
abbrev blkOf (s : Dev nD) : Blocks Ideal := blk X RW IX (expertsOf W) SW s

/-- The kernel's probabilities are the reference's. -/
theorem prob_eq (s : Dev nD) (t : Fin 1024) (e : Fin 64) :
    prob (blkOf X RW IX W SW s) (ix2 t e) = Cert.Plain.probs X RW (ix2 t e) := by
  have h1 : prob (blkOf X RW IX W SW s) (ix2 t e) = Ideal.div
      (Ideal.exp
        (∑ x, (X (ix2 t x) : EReal) * RW (ix2 x e) -
          Finset.fold max (Ideal.ofBits FTy.f32 4286578688#32) (fun x => ∑ y, (X (ix2 t y) : EReal) * RW (ix2 y x))
            Finset.univ))
      (∑ x,
        Ideal.exp
          (∑ y, (X (ix2 t y) : EReal) * RW (ix2 y x) -
            Finset.fold max (Ideal.ofBits FTy.f32 4286578688#32) (fun x => ∑ y, (X (ix2 t y) : EReal) * RW (ix2 y x))
              Finset.univ)) := by
    pointwise [prob, expo, esum, k0_pay4, k0_pay3, k0_pay2, k0_pay1, blk]
  have h2 : Cert.Plain.probs X RW (ix2 t e) = Ideal.div
      (Ideal.exp
        (∑ x, (X (ix2 t x) : EReal) * RW (ix2 x e) -
          Finset.fold max (Ideal.ofBits FTy.f32 4286578688#32) (fun x => ∑ y, (X (ix2 t y) : EReal) * RW (ix2 y x))
            Finset.univ))
      (∑ x,
        Ideal.exp
          (∑ y, (X (ix2 t y) : EReal) * RW (ix2 y x) -
            Finset.fold max (Ideal.ofBits FTy.f32 4286578688#32) (fun x => ∑ y, (X (ix2 t y) : EReal) * RW (ix2 y x))
              Finset.univ)) := by
    pointwise [Cert.Plain.probs, Cert.Plain.expos, Cert.Plain.scores]
  rw [h1, h2]

/-- The owner's expert at a token's place is the token's expert. -/
theorem expert_at (s : Dev nD) (e : Fin 64) (hs : e.val / 4 = s.val) (k : Fin 512) (m : Fin 1024) :
    ewAt (blkOf X RW IX W SW s) ⟨e.val % 4, Nat.mod_lt _ (by omega)⟩ k m = Cert.Plain.ws W e k m := by
  show W _ = W _
  congr 1
  funext a
  refine Fin.ext ?_
  match a with
  | ⟨0, _⟩ =>
    show s.val * 4 + e.val % 4 = e.val
    omega
  | ⟨1, _⟩ => rfl
  | ⟨2, _⟩ => rfl

/-- The kernel's element is the reference's. -/
theorem value_eq (hF : ∀ s, Fits (blkOf X RW IX W SW s)) (c : Dev nD) (o : Fin 64) (m : Fin 1024) :
    resultOf c (blkOf X RW IX W SW c) (landed (fun s => packets s (blkOf X RW IX W SW s)) c) (ix2 o m)
      = Cert.Plain.REF X RW IX W SW (ix2 (homeTok c o) m) := by
  have he : (IX (ix2 (homeTok c o) 0)).toNat < 64 := (hF c).routed (homeTok c o)
  have h4 : (IX (ix2 (homeTok c o) 0)).toNat / 4 < 16 := by omega
  rw [result_eq X RW IX (expertsOf W) SW hF c o m ⟨(IX (ix2 (homeTok c o) 0)).toNat / 4, h4⟩ rfl,
    Cert.Plain.REF_eq X RW W SW (homeTok c o) he m]
  refine congrArg₂ (fun a b : EReal => a + b) rfl ?_
  unfold routedPart probAt viaExpert
  refine congrArg₂ (fun a b : EReal => a * b) ?_ ?_
  · refine (dif_pos he).trans ?_
    exact prob_eq X RW IX W SW _ _ _
  · refine (dif_pos (Nat.mod_lt _ (by omega))).trans ?_
    refine Finset.sum_congr rfl fun k _ => ?_
    refine congrArg₂ (fun a b : EReal => a * b) rfl ?_
    exact expert_at X RW IX W SW ⟨_, h4⟩ ⟨_, he⟩ rfl k m

end value

/-- Device `c`'s result is block `c` of the reference's. -/
theorem algebraic : Cert.algebraic_KernelIdeal_ReferenceIdeal_pre_fits_KernelIdeal := by
  intro m g m' g' hpre hagree
  have hB : ∀ s : Dev nD, blocksOf m s = blkOf
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)) s := fun s => by
    obtain ⟨e0, e1, e2, e3, e4⟩ := hagree s
    rw [blocks_eq, e0, e1, e2, e3, e4]
    rfl
  have hF : ∀ s : Dev nD, Fits (blocksOf m s) := fun s => by
    refine fits_of _ _ _ _ _ (hpre s) _ fun t => ?_
    rw [blocks_eq]
  refine ⟨Cert.Plain.REF
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1))
      (m' (((0 : Dev Cert.ReferenceIdeal.nD).tc : Thread _ Cert.ReferenceIdeal.τ).loc Cert.ReferenceIdeal.main_arg2))
      (m' (((0 : Dev Cert.ReferenceIdeal.nD).tc : Thread _ Cert.ReferenceIdeal.τ).loc Cert.ReferenceIdeal.main_arg3))
      (m' (((0 : Dev Cert.ReferenceIdeal.nD).tc : Thread _ Cert.ReferenceIdeal.τ).loc Cert.ReferenceIdeal.main_arg4)), ?_, ?_⟩
  · refine (θ_run Cert.KernelIdeal.defs _ _).mono (fun r h c => ⟨?_, args_kept m g h.1 c⟩) (run_main (F := Ideal) m g)
    refine ((h.1 c (5 : Fin 6)).trans (finalA_eq m g c)).trans ?_
    have hO : outOf m c = resultOf c (blocksOf m c) (landed (fun s => packets s (blocksOf m s)) c) := rfl
    rw [hO]
    simp only [hB] at hF ⊢
    funext i
    have hi : i = ix2 (⟨(i 0).val, (i 0).isLt⟩ : Fin 64) (⟨(i 1).val, (i 1).isLt⟩ : Fin 1024) := by
      funext a
      match a with
      | ⟨0, _⟩ => rfl
      | ⟨1, _⟩ => rfl
    rw [hi]
    refine (value_eq _ _ _ _ _ hF c _ _).trans ?_
    show Cert.Plain.REF _ _ _ _ _ _ = Cert.Plain.REF _ _ _ _ _ _
    congr 1
    funext a
    refine Fin.ext ?_
    match a with
    | ⟨0, _⟩ => rfl
    | ⟨1, _⟩ => rfl
  · exact (θ_run Cert.ReferenceIdeal.defs _ _).mono (fun r h => h 0) (Cert.ReferenceIdeal.Value.run (F := Ideal) m' g')

end Cert.Exchange
-- ==== Proof.lean ====
module

public import proofs.«01_k».proof.Defs
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.Exchange.fitsKernelFacts, Cert.Exchange.fitsReferenceFacts,
    Cert.Exchange.frame_kernel, Cert.Exchange.frame_kernelIdeal, fun m g _ => Cert.Exchange.frame_kernelIdeal m g trivial,
    Cert.Exchange.frame_reference, fun m g _ => Cert.Exchange.frame_reference m g trivial, trivial, Cert.Exchange.algebraic⟩

end Cert.Proof

end
